-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Kernel_KernelIdeal : Prop :=
  IdealRules.named_const.Statement Cert.KernelIdeal.κ "inv_d_model" .f32 0x39CCCCCD#32 ((1 / 2560 : ℝ) : EReal)

def preserves_Reference_ReferenceIdeal : Prop :=
  IdealRules.named_const.Statement Cert.ReferenceIdeal.κ "ln_2" .f32 0x3F317218#32 ((Real.log 2 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference)
    ∧ preserves_Kernel_KernelIdeal
    ∧ preserves_Reference_ReferenceIdeal
    ∧ algebraic_KernelIdeal_ReferenceIdeal_pre_in_range (hKernelIdeal := hKernelIdeal) (hReferenceIdeal := hReferenceIdeal) (hPre_in_range := hPre_in_range)
-- ==== Pre_in_range.lean ====
abbrev S2x512x2560 : Shape := ⟨3, ![2, 512, 2560]⟩
abbrev S2560 : Shape := ⟨1, ![2560]⟩
abbrev S2560x20480 : Shape := ⟨2, ![2560, 20480]⟩
abbrev S20480 : Shape := ⟨1, ![20480]⟩
abbrev S_ : Shape := ⟨0, ![]⟩

class Facts : Prop where
  bcast_S_S2560 : S_.BroadcastsInDim S2560 (![] : Fin 0 → Fin S2560.rank)
  reducesTo_S2560_S_d0 : S2560.ReducesTo [0] S_
  h_S_ : 0 < S_.numel
  bcast_S_S2560x20480 : S_.BroadcastsInDim S2560x20480 (![] : Fin 0 → Fin S2560x20480.rank)
  reducesTo_S2560x20480_S_d0_1 : S2560x20480.ReducesTo [0, 1] S_
  bcast_S_S20480 : S_.BroadcastsInDim S20480 (![] : Fin 0 → Fin S20480.rank)
  reducesTo_S20480_S_d0 : S20480.ReducesTo [0] S_

variable [Facts]

def fn {F : FTy → Type} [FloatOps F] (main_arg0 : FVec F S2x512x2560 .bf16) (main_arg1 : FVec F S2560 .f32) (main_arg2 : FVec F S2560x20480 .f32) (main_arg3 : FVec F S20480 .f32) : IVec S_ 1 :=
  let main_v0 : FVec F S2560 .f32 := Host.absf main_arg1
  let main_cst : FVec F S_ .f32 := constant S_ .f32 0x47800000#32
  let main_v1 : FVec F S2560 .f32 := broadcastInDim S2560 ![] bcast_S_S2560 main_cst
  let main_v2 : IVec S2560 1 := cmpf .ole main_v0 main_v1
  let main_c : IVec S_ 1 := constantI S_ 1 1#1
  let main_v3 : IVec S_ 1 := (fun x v => Host.reduce IntOp.andi x v reducesTo_S2560_S_d0 h_S_) main_v2 main_c
  let main_v4 : FVec F S2560x20480 .f32 := Host.absf main_arg2
  let main_cst_0 : FVec F S_ .f32 := constant S_ .f32 0x43E00000#32
  let main_v5 : FVec F S2560x20480 .f32 := broadcastInDim S2560x20480 ![] bcast_S_S2560x20480 main_cst_0
  let main_v6 : IVec S2560x20480 1 := cmpf .ole main_v4 main_v5
  let main_c_1 : IVec S_ 1 := constantI S_ 1 1#1
  let main_v7 : IVec S_ 1 := (fun x v => Host.reduce IntOp.andi x v reducesTo_S2560x20480_S_d0_1 h_S_) main_v6 main_c_1
  let main_v8 : IVec S_ 1 := andi main_v3 main_v7
  let main_v9 : FVec F S20480 .f32 := Host.absf main_arg3
  let main_cst_2 : FVec F S_ .f32 := constant S_ .f32 0x47800000#32
  let main_v10 : FVec F S20480 .f32 := broadcastInDim S20480 ![] bcast_S_S20480 main_cst_2
  let main_v11 : IVec S20480 1 := cmpf .ole main_v9 main_v10
  let main_c_3 : IVec S_ 1 := constantI S_ 1 1#1
  let main_v12 : IVec S_ 1 := (fun x v => Host.reduce IntOp.andi x v reducesTo_S20480_S_d0 h_S_) main_v11 main_c_3
  let main_v13 : IVec S_ 1 := andi main_v8 main_v12
  main_v13
-- ==== Kernel.lean ====
abbrev S2x512x2560 : Shape := ⟨3, ![2, 512, 2560]⟩
abbrev S2560 : Shape := ⟨1, ![2560]⟩
abbrev S2560x20480 : Shape := ⟨2, ![2560, 20480]⟩
abbrev S20480 : Shape := ⟨1, ![20480]⟩
abbrev S1024x2560 : Shape := ⟨2, ![1024, 2560]⟩
abbrev S1x2560 : Shape := ⟨2, ![1, 2560]⟩
abbrev S1x20480 : Shape := ⟨2, ![1, 20480]⟩
abbrev S1024x10240 : Shape := ⟨2, ![1024, 10240]⟩
abbrev S1024x80 : Shape := ⟨2, ![1024, 80]⟩
abbrev S1024x1 : Shape := ⟨2, ![1024, 1]⟩
abbrev S2560x512 : Shape := ⟨2, ![2560, 512]⟩
abbrev S1x512 : Shape := ⟨2, ![1, 512]⟩
abbrev S1024x512 : Shape := ⟨2, ![1024, 512]⟩
abbrev S1024x128 : Shape := ⟨2, ![1024, 128]⟩
abbrev S32x2560 : Shape := ⟨2, ![32, 2560]⟩
abbrev S32 : Shape := ⟨1, ![32]⟩
abbrev S32x1 : Shape := ⟨2, ![32, 1]⟩
abbrev S32x128 : Shape := ⟨2, ![32, 128]⟩
abbrev S256x80 : Shape := ⟨2, ![256, 80]⟩
abbrev S256x2560 : Shape := ⟨2, ![256, 2560]⟩
abbrev S2560x256 : Shape := ⟨2, ![2560, 256]⟩
abbrev S256x256 : Shape := ⟨2, ![256, 256]⟩
abbrev S256x128 : Shape := ⟨2, ![256, 128]⟩
abbrev S1x128 : Shape := ⟨2, ![1, 128]⟩
abbrev S256 : Shape := ⟨1, ![256]⟩
abbrev S256x1 : Shape := ⟨2, ![256, 1]⟩

abbrev nBuf : Space → Nat
  | .hbm => 13
  | .vmem => 16
  | .smem => 0
  | _ => 0

abbrev bufTy : (tb : Table) → Fin (tcTables nBuf tb) → BufTy
  | .hbm, ⟨0, _⟩ => ⟨S2x512x2560, .bf16⟩
  | .hbm, ⟨1, _⟩ => ⟨S2560, .f32⟩
  | .hbm, ⟨2, _⟩ => ⟨S2560x20480, .f32⟩
  | .hbm, ⟨3, _⟩ => ⟨S20480, .f32⟩
  | .hbm, ⟨4, _⟩ => ⟨S2560x20480, .fp8e4m3⟩
  | .hbm, ⟨5, _⟩ => ⟨S1024x2560, .bf16⟩
  | .hbm, ⟨6, _⟩ => ⟨S1x2560, .f32⟩
  | .hbm, ⟨7, _⟩ => ⟨S1x20480, .f32⟩
  | .hbm, ⟨8, _⟩ => ⟨S1x20480, .f32⟩
  | .hbm, ⟨9, _⟩ => ⟨S1024x10240, .fp8e4m3⟩
  | .hbm, ⟨10, _⟩ => ⟨S1024x80, .f32⟩
  | .hbm, ⟨11, _⟩ => ⟨S1024x2560, .fp8e4m3⟩
  | .hbm, ⟨12, _⟩ => ⟨S1024x1, .f32⟩
  | .local _ .vmem, ⟨0, _⟩ => ⟨S1024x2560, .bf16⟩
  | .local _ .vmem, ⟨1, _⟩ => ⟨S1x2560, .f32⟩
  | .local _ .vmem, ⟨2, _⟩ => ⟨S2560x512, .fp8e4m3⟩
  | .local _ .vmem, ⟨3, _⟩ => ⟨S2560x512, .fp8e4m3⟩
  | .local _ .vmem, ⟨4, _⟩ => ⟨S2560x512, .fp8e4m3⟩
  | .local _ .vmem, ⟨5, _⟩ => ⟨S2560x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .fp8e4m3⟩
  | .local _ .vmem, ⟨11, _⟩ => ⟨S1024x512, .fp8e4m3⟩
  | .local _ .vmem, ⟨12, _⟩ => ⟨S1024x80, .f32⟩
  | .local _ .vmem, ⟨13, _⟩ => ⟨S1024x2560, .fp8e4m3⟩
  | .local _ .vmem, ⟨14, _⟩ => ⟨S1024x1, .f32⟩
  | .local _ .vmem, ⟨15, _⟩ => ⟨S1024x128, .f32⟩
  | _, _ => ⟨S2x512x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_565 : BitVec 32 := 0#32
  let c32_i32 : BitVec 32 := 32#32
  let v1692 : BitVec 32 := Scalar.addi c0_i32_565 c32_i32
  let c1_i32_566 : BitVec 32 := 1#32
  ⟨c0_i32_565, v1692, c1_i32_566⟩
def k0_mult1 (k0_t1 : Fin k0_t1_loop.trips) : BitVec 32 :=
  let c0_i32_565 : BitVec 32 := 0#32
  let c1_i32_566 : BitVec 32 := 1#32
  let arg12 : BitVec 32 := Scf.iv c0_i32_565 c1_i32_566 k0_t1
  let c32_i32_568 : BitVec 32 := 32#32
  let v1693 : BitVec 32 := Scalar.muli arg12 c32_i32_568
  v1693
def k0_off1 (k0_t1 : Fin k0_t1_loop.trips) : Fin 2 → Nat :=
  let c0_i32_565 : BitVec 32 := 0#32
  let c1_i32_566 : BitVec 32 := 1#32
  let arg12 : BitVec 32 := Scf.iv c0_i32_565 c1_i32_566 k0_t1
  let c32_i32_568 : BitVec 32 := 32#32
  let v1693 : BitVec 32 := Scalar.muli arg12 c32_i32_568
  let v1694 : BitVec 32 := v1693
  let v1695 : Index := Scalar.indexCast v1694
  let c0_569 : Index := 0#32
  ![v1695.toNat, 0]
def k0_off2 (k0_t1 : Fin k0_t1_loop.trips) : Fin 2 → Nat :=
  let c0_i32_565 : BitVec 32 := 0#32
  let c1_i32_566 : BitVec 32 := 1#32
  let arg12 : BitVec 32 := Scf.iv c0_i32_565 c1_i32_566 k0_t1
  let c32_i32_568 : BitVec 32 := 32#32
  let v1693 : BitVec 32 := Scalar.muli arg12 c32_i32_568
  let v1694 : BitVec 32 := v1693
  let v1785 : Index := Scalar.indexCast v1694
  let c0_594 : Index := 0#32
  ![v1785.toNat, 0]
def k0_off3 (k0_t1 : Fin k0_t1_loop.trips) : Fin 2 → Nat :=
  let c0_i32_565 : BitVec 32 := 0#32
  let c1_i32_566 : BitVec 32 := 1#32
  let arg12 : BitVec 32 := Scf.iv c0_i32_565 c1_i32_566 k0_t1
  let c32_i32_568 : BitVec 32 := 32#32
  let v1693 : BitVec 32 := Scalar.muli arg12 c32_i32_568
  let v1694 : BitVec 32 := v1693
  let v1787 : Index := Scalar.indexCast v1694
  let c0_595 : Index := 0#32
  ![v1787.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c20_i32 : BitVec 32 := 20#32
  let v0 : BitVec 32 := Scalar.addi arg0 c20_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c20_i32 : BitVec 32 := 20#32
  let v0 : BitVec 32 := Scalar.addi arg0 c20_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2560x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2560x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x80 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2560 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "inv_d_model" => some ((1 / 2560 : ℝ) : EReal)
  | _ => none
-- ==== ReferenceIdeal.lean ====
variable {F : FTy → Type} [FloatOps F] [Named F]
def κ : String → Option EReal := fun
  | "ln_2" => some ((Real.log 2 : ℝ) : EReal)
  | _ => none
-- ==== Reference.lean ====
abbrev S2x512x2560 : Shape := ⟨3, ![2, 512, 2560]⟩
abbrev S2560 : Shape := ⟨1, ![2560]⟩
abbrev S2560x20480 : Shape := ⟨2, ![2560, 20480]⟩
abbrev S20480 : Shape := ⟨1, ![20480]⟩
abbrev S1024x2560 : Shape := ⟨2, ![1024, 2560]⟩
abbrev S1x2560 : Shape := ⟨2, ![1, 2560]⟩
abbrev S1x20480 : Shape := ⟨2, ![1, 20480]⟩
abbrev S1024x10240 : Shape := ⟨2, ![1024, 10240]⟩
abbrev S1024x80 : Shape := ⟨2, ![1024, 80]⟩
abbrev S1024x1 : Shape := ⟨2, ![1024, 1]⟩
abbrev S1024 : Shape := ⟨1, ![1024]⟩
abbrev S1024x20480 : Shape := ⟨2, ![1024, 20480]⟩
abbrev S1024x80x128 : Shape := ⟨3, ![1024, 80, 128]⟩
abbrev S1024x80x1 : Shape := ⟨3, ![1024, 80, 1]⟩

abbrev nBuf : Space → Nat
  | .hbm => 12
  | .vmem => 8
  | .smem => 0
  | _ => 0

abbrev bufTy : (tb : Table) → Fin (tcTables nBuf tb) → BufTy
  | .hbm, ⟨0, _⟩ => ⟨S2x512x2560, .bf16⟩
  | .hbm, ⟨1, _⟩ => ⟨S2560, .f32⟩
  | .hbm, ⟨2, _⟩ => ⟨S2560x20480, .f32⟩
  | .hbm, ⟨3, _⟩ => ⟨S20480, .f32⟩
  | .hbm, ⟨4, _⟩ => ⟨S2560x20480, .fp8e4m3⟩
  | .hbm, ⟨5, _⟩ => ⟨S1024x2560, .bf16⟩
  | .hbm, ⟨6, _⟩ => ⟨S1x2560, .f32⟩
  | .hbm, ⟨7, _⟩ => ⟨S1x20480, .f32⟩
  | .hbm, ⟨8, _⟩ => ⟨S1024x10240, .fp8e4m3⟩
  | .hbm, ⟨9, _⟩ => ⟨S1024x80, .f32⟩
  | .hbm, ⟨10, _⟩ => ⟨S1024x2560, .fp8e4m3⟩
  | .hbm, ⟨11, _⟩ => ⟨S1024x1, .f32⟩
  | .local _ .vmem, ⟨0, _⟩ => ⟨S1024x2560, .bf16⟩
  | .local _ .vmem, ⟨1, _⟩ => ⟨S1x2560, .f32⟩
  | .local _ .vmem, ⟨2, _⟩ => ⟨S2560x20480, .fp8e4m3⟩
  | .local _ .vmem, ⟨3, _⟩ => ⟨S1x20480, .f32⟩
  | .local _ .vmem, ⟨4, _⟩ => ⟨S1024x10240, .fp8e4m3⟩
  | .local _ .vmem, ⟨5, _⟩ => ⟨S1024x80, .f32⟩
  | .local _ .vmem, ⟨6, _⟩ => ⟨S1024x2560, .fp8e4m3⟩
  | .local _ .vmem, ⟨7, _⟩ => ⟨S1024x1, .f32⟩
  | _, _ => ⟨S2x512x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1024x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x20480 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x20480 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x10240 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x2560 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Block.lean ====
/- What the kernel computes for one block: the power-of-two quantiser as vector operations, a row group's gated
   product, its codes and its scales; and for thirty-two rows of the input the normalised rows, their codes and scales.
   The kernel prints sixteen unrolled copies of the first and one loop body with the second; each copy is one of these
   functions by computation, so everything about values is proved for these functions once. -/
module

public import proofs.«01_k».proof.Proof.Gen.KernelIdeal.Skeleton
public import Idealize.ShloMosaic.Lib.Pointwise

@[expose] public section

set_option maxRecDepth 16384

noncomputable section

namespace Cert.KernelIdeal.Hand

open Idealize.ShloMosaic Idealize.SL.Sem
open Cert.KernelIdeal Cert.KernelIdeal.Gen

variable {F : FTy → Type} [FloatOps F] {s : Shape}

/-- One step of the search for the exponent field: add the weight `w` unless the float it makes is above `a`. -/
def rung (w : BitVec 32) (a : FVec F s .f32) (b : IVec s 32) : IVec s 32 :=
  select (cmpf .olt a (bitcastToFloat .f32 (addi b (broadcast s w)))) b (addi b (broadcast s w))

/-- The exponent field of `a`, found from its highest bit down. -/
def expField (a : FVec F s .f32) : IVec s 32 :=
  rung 8388608#32 a (rung 16777216#32 a (rung 33554432#32 a (rung 67108864#32 a (rung 134217728#32 a
    (rung 268435456#32 a (rung 536870912#32 a (rung 1073741824#32 a (broadcast s 0#32))))))))

/-- The exponent field with zero replaced by 126's field. -/
def fieldOr126 (a : FVec F s .f32) : IVec s 32 :=
  select (cmpi .eq (expField a) (broadcast s 0#32)) (broadcast s 1056964608#32) (expField a)

/-- The scale: the power of two one exponent up. -/
def scaleV (a : FVec F s .f32) : FVec F s .f32 := bitcastToFloat .f32 (addi (fieldOr126 a) (broadcast s 8388608#32))

/-- The scale's reciprocal. -/
def invV (a : FVec F s .f32) : FVec F s .f32 := bitcastToFloat .f32 (subi (broadcast s 2122317824#32) (fieldOr126 a))

/-- Clipped to ±448 and narrowed. -/
def clipV (v : FVec F s .f32) : FVec F s .fp8e4m3 :=
  truncf .fp8e4m3 (minimumf (broadcast s (Scalar.ofBits .f32 0x43E00000#32))
    (maximumf (broadcast s (Scalar.ofBits .f32 0xC3E00000#32)) v)) bitsLt_fp8e4m3_f32

/-- A 256-column product's left half of columns. -/
def halfL (xc : FVec F S256x2560 .fp8e4m3) (w : FVec F S2560x256 .fp8e4m3) : FVec F S256x128 .f32 :=
  extractStridedSlice S256x128 ![0, 0]
    (matmul dot_S256x2560_S2560x256_S256x256_1_0_0_1_n_n none (shapeCast S256x2560 xc shapeCasts_S256x2560_S256x2560)
      (shapeCast S2560x256 w shapeCasts_S2560x256_S2560x256) (constant S256x256 .f32 0x00000000#32))
    slices_S256x256_o0_0_S256x128

/-- Its right half. -/
def halfR (xc : FVec F S256x2560 .fp8e4m3) (w : FVec F S2560x256 .fp8e4m3) : FVec F S256x128 .f32 :=
  extractStridedSlice S256x128 ![0, 128]
    (matmul dot_S256x2560_S2560x256_S256x256_1_0_0_1_n_n none (shapeCast S256x2560 xc shapeCasts_S256x2560_S256x2560)
      (shapeCast S2560x256 w shapeCasts_S2560x256_S2560x256) (constant S256x256 .f32 0x00000000#32))
    slices_S256x256_o0_128_S256x128

/-- The gate's pre-activation. -/
def gateV (ag xs : FVec F S256x128 .f32) (sg : FVec F S1x128 .f32) : FVec F S256x128 .f32 :=
  mulf (mulf ag xs) (broadcastTo S256x128 (shapeCast S1x128 sg shapeCasts_S1x128_S1x128) broadcasts_S1x128_S256x128)

/-- Half the up projection. -/
def upV (au xs : FVec F S256x128 .f32) (su : FVec F S1x128 .f32) : FVec F S256x128 .f32 :=
  mulf (mulf au (mulf (broadcast S256x128 (Scalar.ofBits .f32 0x3F000000#32)) xs))
    (broadcastTo S256x128 (shapeCast S1x128 su shapeCasts_S1x128_S1x128) broadcasts_S1x128_S256x128)

/-- The gated product of a block. -/
def prodV (ag au xs : FVec F S256x128 .f32) (sg su : FVec F S1x128 .f32) : FVec F S256x128 .f32 :=
  mulf (mulf (gateV ag xs sg)
    (addf (broadcast S256x128 (Scalar.ofBits .f32 0x3F800000#32))
      (tanh (mulf (broadcast S256x128 (Scalar.ofBits .f32 0x3F4C422A#32))
        (addf (gateV ag xs sg)
          (mulf (broadcast S256x128 (Scalar.ofBits .f32 0x3D372713#32))
            (mulf (mulf (gateV ag xs sg) (gateV ag xs sg)) (gateV ag xs sg))))))))
    (upV au xs su)

/-- The greatest size in each row of a block over 448, on every lane. -/
def amaxV (h : FVec F S256x128 .f32) : FVec F S256x128 .f32 :=
  absf (mulf (broadcastTo S256x128
      (shapeCast S256x1 (shapeCast S256x1 (multiReduction .maximumf [1] S256 (absf h) 0xFF800000#32 reduces_S256x128_S256 (.inl rfl) rfl)
        shapeCasts_S256_S256x1) shapeCasts_S256x1_S256x1) broadcasts_S256x1_S256x128)
    (broadcast S256x128 (Scalar.ofBits .f32 0x3B124925#32)))

/-- The block's codes. -/
def codesV (h : FVec F S256x128 .f32) : FVec F S256x128 .fp8e4m3 := clipV (mulf h (invV (amaxV h)))

/-- The block's scales, on eighty lanes. -/
def scalesV (h : FVec F S256x128 .f32) : FVec F S256x80 .f32 :=
  shapeCast S256x80 (extractStridedSlice S256x80 ![0, 0] (scaleV (amaxV h)) slices_S256x128_o0_0_S256x80) shapeCasts_S256x80_S256x80

/-- The lanes a block's scale is stored to: the lane of its group. -/
def maskV (j a b : BitVec 32) : IVec S256x80 1 :=
  shapeCast S256x80 (cmpi .eq (iota .tc S256x80 32 [1] iota_S256x80_d1_w32)
    (broadcast S256x80 (Scalar.addi (Scalar.addi (Scalar.muli j 4#32) a) b))) shapeCasts_S256x80_S256x80

end Cert.KernelIdeal.Hand

end
-- ==== Proof.Setup.lean ====
/- The generated frame's small facts (the branch condition, the staging memrefs, the scratch), for this program; the parts
   of the staged blocks the body reads; and what a grid point leaves in the codes' and the scales' blocks. -/
module

public import proofs.«01_k».proof.Proof.Gen.KernelIdeal.Frame
public import proofs.«01_k».proof.Proof.Gen.KernelIdeal.Loops
public import proofs.«01_k».proof.Proof.Block

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F] [Named F]

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 20 = 0 :=
  (fun t => by
    have ht : t.val < 20 := Nat.lt_of_lt_of_eq t.isLt N_0
    have e0 : (grid0.coords t 0).val = t.val / 1 % 20 := Pipeline.Grid.coords_val t 0 (by decide) rfl
    simp only [cond0_0, k0_cond1, e0]
    word_cmp
   : ∀ t : Fin grid0.N, cond0_0 (grid0.coords t) ↔ t.val % 20 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2560 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2560x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2560x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x80 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x2560 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1024x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

/-! ## The parts of the staged blocks a row and column group reads -/

/-- 256 rows of the codes from row `R`. -/
def xcL (y : Vec F S1024x2560 .fp8e4m3) (R : ℕ) : Vec F S256x2560 .fp8e4m3 :=
  fun x => y (ix2 ⟨(R + (x 0).val) % 1024, Nat.mod_lt _ (by decide)⟩ ⟨(x 1).val, (x 1).isLt⟩)
/-- 256 columns of the weights from column `C`. -/
def wL (y : Vec F S2560x512 .fp8e4m3) (C : ℕ) : Vec F S2560x256 .fp8e4m3 :=
  fun x => y (ix2 ⟨(x 0).val, (x 0).isLt⟩ ⟨(C + (x 1).val) % 512, Nat.mod_lt _ (by decide)⟩)
/-- 256 rows of the row scales from row `R`. -/
def xsL (y : Vec F S1024x128 .f32) (R : ℕ) : Vec F S256x128 .f32 :=
  fun x => y (ix2 ⟨(R + (x 0).val) % 1024, Nat.mod_lt _ (by decide)⟩ ⟨(x 1).val, (x 1).isLt⟩)
/-- 128 weight scales from column `C`. -/
def sL (y : Vec F S1x512 .f32) (C : ℕ) : Vec F S1x128 .f32 :=
  fun x => y (ix2 ⟨0, by decide⟩ ⟨(C + (x 1).val) % 512, Nat.mod_lt _ (by decide)⟩)

theorem ld_xcL (y : Vec F S1024x2560 .fp8e4m3) (R : ℕ) (h : ∀ a, (![R, 0] : Fin 2 → ℕ) a + S256x2560.size a ≤ S1024x2560.size a) :
    View.ld (Val := Elt F) (S := S1024x2560) (e' := .fp8e4m3) y (Rect.unit (s := S1024x2560) ![R, 0] S256x2560.size h) = xcL y R := by
  have h0 : R + 256 ≤ 1024 := h 0
  funext x
  idx_vars x
  pointwise [xcL]
  congr 2
  simp only [Fin.mk.injEq]
  omega
theorem ld_wL (y : Vec F S2560x512 .fp8e4m3) (C : ℕ) (h : ∀ a, (![0, C] : Fin 2 → ℕ) a + S2560x256.size a ≤ S2560x512.size a) :
    View.ld (Val := Elt F) (S := S2560x512) (e' := .fp8e4m3) y (Rect.unit (s := S2560x512) ![0, C] S2560x256.size h) = wL y C := by
  have h0 : C + 256 ≤ 512 := h 1
  funext x
  idx_vars x
  pointwise [wL]
  congr 2
  simp only [Fin.mk.injEq]
  omega
theorem ld_xsL (y : Vec F S1024x128 .f32) (R : ℕ) (h : ∀ a, (![R, 0] : Fin 2 → ℕ) a + S256x128.size a ≤ S1024x128.size a) :
    View.ld (Val := Elt F) (S := S1024x128) (e' := .f32) y (Rect.unit (s := S1024x128) ![R, 0] S256x128.size h) = xsL y R := by
  have h0 : R + 256 ≤ 1024 := h 0
  funext x
  idx_vars x
  pointwise [xsL]
  congr 2
  simp only [Fin.mk.injEq]
  omega
theorem ld_sL (y : Vec F S1x512 .f32) (C : ℕ) (h : ∀ a, (![0, C] : Fin 2 → ℕ) a + S1x128.size a ≤ S1x512.size a) :
    View.ld (Val := Elt F) (S := S1x512) (e' := .f32) y (Rect.unit (s := S1x512) ![0, C] S1x128.size h) = sL y C := by
  have h0 : C + 128 ≤ 512 := h 1
  funext x
  idx_vars x
  pointwise [sL]
  congr 2
  simp only [Fin.mk.injEq]
  omega

/-! ## What a grid point leaves in the two blocks it writes -/

/-- The gated product of the block at row `R` and column `C` of the point's 1024 × 512 block. -/
def blockH (x2 x3 : Vec F S2560x512 .fp8e4m3) (x4 x5 : Vec F S1x512 .f32) (y8 : Vec F S1024x2560 .fp8e4m3)
    (ys : Vec F S1024x128 .f32) (R C : ℕ) : FVec F S256x128 .f32 :=
  if C % 256 = 0 then
    prodV (halfL (xcL y8 R) (wL x2 (C / 256 * 256))) (halfL (xcL y8 R) (wL x3 (C / 256 * 256))) (xsL ys R) (sL x4 C) (sL x5 C)
  else
    prodV (halfR (xcL y8 R) (wL x2 (C / 256 * 256))) (halfR (xcL y8 R) (wL x3 (C / 256 * 256))) (xsL ys R) (sL x4 C) (sL x5 C)

/-- The codes a point leaves. -/
def hcB (x2 x3 : Vec F S2560x512 .fp8e4m3) (x4 x5 : Vec F S1x512 .f32) (y8 : Vec F S1024x2560 .fp8e4m3)
    (ys : Vec F S1024x128 .f32) : Vec F S1024x512 .fp8e4m3 :=
  fun y => codesV (blockH x2 x3 x4 x5 y8 ys ((y 0).val / 256 * 256) ((y 1).val / 128 * 128))
    (ix2 ⟨(y 0).val % 256, Nat.mod_lt _ (by decide)⟩ ⟨(y 1).val % 128, Nat.mod_lt _ (by decide)⟩)

/-- The scales a point leaves: on its own four lanes the block's, on the others what was there. -/
def hsB (t : ℕ) (x2 x3 : Vec F S2560x512 .fp8e4m3) (x4 x5 : Vec F S1x512 .f32) (y8 : Vec F S1024x2560 .fp8e4m3)
    (ys : Vec F S1024x128 .f32) (y7 : Vec F S1024x80 .f32) : Vec F S1024x80 .f32 :=
  fun y => if (y 1).val / 4 = t then
      scalesV (blockH x2 x3 x4 x5 y8 ys ((y 0).val / 256 * 256) ((y 1).val % 4 * 128))
        (ix2 ⟨(y 0).val % 256, Nat.mod_lt _ (by decide)⟩ ⟨(y 1).val, (y 1).isLt⟩)
    else y7 y

theorem hcB_emb (x2 x3 : Vec F S2560x512 .fp8e4m3) (x4 x5 : Vec F S1x512 .f32) (y8 : Vec F S1024x2560 .fp8e4m3)
    (ys : Vec F S1024x128 .f32) (R C : ℕ) (h : ∀ a, (![R, C] : Fin 2 → ℕ) a + S256x128.size a ≤ S1024x512.size a)
    (hR : R % 256 = 0) (hC : C % 128 = 0) (w : FVec F S256x128 .fp8e4m3)
    (hw : w = codesV (blockH x2 x3 x4 x5 y8 ys R C)) (x : (Rect.unit (s := S1024x512) ![R, C] S256x128.size h).shape.Idx) :
    w x = hcB x2 x3 x4 x5 y8 ys ((Rect.unit (s := S1024x512) ![R, C] S256x128.size h).emb x) := by
  subst hw
  have hx0 : (x 0).val < 256 := (x 0).isLt
  have hx1 : (x 1).val < 128 := (x 1).isLt
  have e0 : (((Rect.unit (s := S1024x512) ![R, C] S256x128.size h).emb x) 0).val = R + (x 0).val := by
    show R + 1 * (x 0).val = _; omega
  have e1 : (((Rect.unit (s := S1024x512) ![R, C] S256x128.size h).emb x) 1).val = C + (x 1).val := by
    show C + 1 * (x 1).val = _; omega
  unfold hcB
  have r0 : (R + (x 0).val) / 256 * 256 = R := by omega
  have r1 : (C + (x 1).val) / 128 * 128 = C := by omega
  simp only [e0, e1, r0, r1]
  congr 1
  funext a
  match a with
  | ⟨0, _⟩ => exact Fin.ext (show (x 0).val = (R + (x 0).val) % 256 by omega)
  | ⟨1, _⟩ => exact Fin.ext (show (x 1).val = (C + (x 1).val) % 128 by omega)

/-- One masked store of a block's scales, read back: on the block's rows and its lane the payload, elsewhere what was there. -/
theorem read_mask (arg8 : Memref sig .tc .vmem S1024x80 .f32) (R : ℕ)
    (h : ∀ a, (![R, 0] : Fin 2 → ℕ) a + S256x80.size a ≤ S1024x80.size a) (f : arg8.view.ty.Contents (Elt F)) (w : FVec F S256x80 .f32)
    (t a b : ℕ) (ht : t < 20) (ha : a < 4) (hb : b < 4) (hR : R % 256 = 0) (j : BitVec 32) (hj : j = BitVec.ofNat 32 t)
    (M : IVec S256x80 1) (hM : M = maskV j (BitVec.ofNat 32 a) (BitVec.ofNat 32 b)) (y : S1024x80.Idx) :
    arg8.view.read (Elt F) ((arg8.access (Rect.unit (s := S1024x80) ![R, 0] S256x80.size h)).write (Elt F) f w (IVec.on M)) y
      = if (y 0).val / 256 * 256 = R ∧ (y 1).val = t * 4 + a + b then
          w (ix2 ⟨(y 0).val % 256, Nat.mod_lt _ (by decide)⟩ ⟨(y 1).val, (y 1).isLt⟩)
        else arg8.view.read (Elt F) f y := by
  subst hj hM
  have hy0 : (y 0).val < 1024 := (y 0).isLt
  have hy1 : (y 1).val < 80 := (y 1).isLt
  have h0 : R + 256 ≤ 1024 := h 0
  have key : ∀ x : S256x80.Idx, x ∈ IVec.on (maskV (BitVec.ofNat 32 t) (BitVec.ofNat 32 a) (BitVec.ofNat 32 b)) ↔ (x 1).val = t * 4 + a + b := by
    intro x
    have hx1 : (x 1).val < 80 := (x 1).isLt
    rw [show (x ∈ IVec.on (maskV (BitVec.ofNat 32 t) (BitVec.ofNat 32 a) (BitVec.ofNat 32 b)))
      ↔ maskV (BitVec.ofNat 32 t) (BitVec.ofNat 32 a) (BitVec.ofNat 32 b) x = 1#1 from by simp [IVec.on]]
    idx_vars x
    pointwise [maskV]
    have e : Scalar.addi (Scalar.addi (Scalar.muli (BitVec.ofNat 32 t) 4#32) (BitVec.ofNat 32 a)) (BitVec.ofNat 32 b)
        = BitVec.ofNat 32 (t * 4 + a + b) := by
      show (BitVec.ofNat 32 t * 4#32 + BitVec.ofNat 32 a) + BitVec.ofNat 32 b = _
      rw [BitVec.ofNat_add, BitVec.ofNat_add, BitVec.ofNat_mul]
    rw [e]
    show BitVec.ofBool (BitVec.ofNat 32 x1.val == BitVec.ofNat 32 (t * 4 + a + b)) = 1#1 ↔ _
    have hh : (BitVec.ofNat 32 x1.val == BitVec.ofNat 32 (t * 4 + a + b)) = decide (x1.val = t * 4 + a + b) := by
      rw [Bool.eq_iff_iff, beq_iff_eq, decide_eq_true_iff, ← BitVec.toNat_inj, BitVec.toNat_ofNat, BitVec.toNat_ofNat]
      omega
    rw [hh]
    by_cases hq : x1.val = t * 4 + a + b <;> simp [hq]
  split_ifs with hc
  · obtain ⟨hc0, hc1⟩ := hc
    have hx : (Rect.unit (s := S1024x80) ![R, 0] S256x80.size h).emb
        (ix2 ⟨(y 0).val % 256, Nat.mod_lt _ (by decide)⟩ ⟨(y 1).val, (y 1).isLt⟩) = y := by
      refine Rect.emb_eq_of_coords _ _ _ fun a => ?_
      match a with
      | ⟨0, _⟩ => show (y 0).val = R + 1 * ((y 0).val % 256); omega
      | ⟨1, _⟩ => show (y 1).val = 0 + 1 * (y 1).val; omega
    conv_lhs => rw [← hx]
    exact View.read_slice_write_emb _ _ _ ((key _).2 hc1)
  · refine View.read_slice_write_of_not_mem _ _ _ _ fun hm => hc ?_
    obtain ⟨x, hxm, hxy⟩ := Finset.mem_map.1 hm
    have hx0 : (x 0).val < 256 := (x 0).isLt
    have e0 : (y 0).val = R + 1 * (x 0).val := by rw [← hxy]; rfl
    have e1 : (y 1).val = 0 + 1 * (x 1).val := by rw [← hxy]; rfl
    have := (key x).1 hxm
    exact ⟨by omega, by omega⟩

/-- Sixteen nested choices, one per block, are one choice of the block from the row and the lane. -/
theorem ladder16 {α : Type} (S : ℕ → ℕ → α) (z : α) (r l t : ℕ) (hr : r < 1024) :
    (if r / 256 * 256 = 768 ∧ l = t * 4 + 2 + 1 then S 768 384 else
      if r / 256 * 256 = 768 ∧ l = t * 4 + 2 + 0 then S 768 256 else
      if r / 256 * 256 = 512 ∧ l = t * 4 + 2 + 1 then S 512 384 else
      if r / 256 * 256 = 512 ∧ l = t * 4 + 2 + 0 then S 512 256 else
      if r / 256 * 256 = 256 ∧ l = t * 4 + 2 + 1 then S 256 384 else
      if r / 256 * 256 = 256 ∧ l = t * 4 + 2 + 0 then S 256 256 else
      if r / 256 * 256 = 0 ∧ l = t * 4 + 2 + 1 then S 0 384 else
      if r / 256 * 256 = 0 ∧ l = t * 4 + 2 + 0 then S 0 256 else
      if r / 256 * 256 = 768 ∧ l = t * 4 + 0 + 1 then S 768 128 else
      if r / 256 * 256 = 768 ∧ l = t * 4 + 0 + 0 then S 768 0 else
      if r / 256 * 256 = 512 ∧ l = t * 4 + 0 + 1 then S 512 128 else
      if r / 256 * 256 = 512 ∧ l = t * 4 + 0 + 0 then S 512 0 else
      if r / 256 * 256 = 256 ∧ l = t * 4 + 0 + 1 then S 256 128 else
      if r / 256 * 256 = 256 ∧ l = t * 4 + 0 + 0 then S 256 0 else
      if r / 256 * 256 = 0 ∧ l = t * 4 + 0 + 1 then S 0 128 else
      if r / 256 * 256 = 0 ∧ l = t * 4 + 0 + 0 then S 0 0 else
      z) = if l / 4 = t then S (r / 256 * 256) (l % 4 * 128) else z := by
  have hR : r / 256 * 256 = 0 ∨ r / 256 * 256 = 256 ∨ r / 256 * 256 = 512 ∨ r / 256 * 256 = 768 := by omega
  generalize r / 256 * 256 = R at hR ⊢
  by_cases h : l / 4 = t
  · have hl : l = t * 4 + 0 ∨ l = t * 4 + 1 ∨ l = t * 4 + 2 ∨ l = t * 4 + 3 := by omega
    rw [if_pos h]
    have hm : l % 4 = l - t * 4 := by omega
    rw [hm]
    clear hm h
    rcases hl with rfl | rfl | rfl | rfl <;> rcases hR with rfl | rfl | rfl | rfl <;> simp <;> (intro hc; exfalso; omega)
  · rw [if_neg h]
    have n0 : ¬ l = t * 4 + 0 + 0 := by omega
    have n1 : ¬ l = t * 4 + 0 + 1 := by omega
    have n2 : ¬ l = t * 4 + 2 + 0 := by omega
    have n3 : ¬ l = t * 4 + 2 + 1 := by omega
    simp only [n0, n1, n2, n3, _root_.and_false, if_false]

/-- The sixteen masked stores of a point together. -/
theorem hs_ladder (t : ℕ) (x2 x3 : Vec F S2560x512 .fp8e4m3) (x4 x5 : Vec F S1x512 .f32) (y8 : Vec F S1024x2560 .fp8e4m3)
    (ys : Vec F S1024x128 .f32) (y7 : Vec F S1024x80 .f32) (y : S1024x80.Idx) :
    (if (y 0).val / 256 * 256 = 768 ∧ (y 1).val = t * 4 + 2 + 1 then scalesV (blockH x2 x3 x4 x5 y8 ys 768 384) (ix2 ⟨(y 0).val % 256, Nat.mod_lt _ (by decide)⟩ ⟨(y 1).val, (y 1).isLt⟩) else
    if (y 0).val / 256 * 256 = 768 ∧ (y 1).val = t * 4 + 2 + 0 then scalesV (blockH x2 x3 x4 x5 y8 ys 768 256) (ix2 ⟨(y 0).val % 256, Nat.mod_lt _ (by decide)⟩ ⟨(y 1).val, (y 1).isLt⟩) else
    if (y 0).val / 256 * 256 = 512 ∧ (y 1).val = t * 4 + 2 + 1 then scalesV (blockH x2 x3 x4 x5 y8 ys 512 384) (ix2 ⟨(y 0).val % 256, Nat.mod_lt _ (by decide)⟩ ⟨(y 1).val, (y 1).isLt⟩) else
    if (y 0).val / 256 * 256 = 512 ∧ (y 1).val = t * 4 + 2 + 0 then scalesV (blockH x2 x3 x4 x5 y8 ys 512 256) (ix2 ⟨(y 0).val % 256, Nat.mod_lt _ (by decide)⟩ ⟨(y 1).val, (y 1).isLt⟩) else
    if (y 0).val / 256 * 256 = 256 ∧ (y 1).val = t * 4 + 2 + 1 then scalesV (blockH x2 x3 x4 x5 y8 ys 256 384) (ix2 ⟨(y 0).val % 256, Nat.mod_lt _ (by decide)⟩ ⟨(y 1).val, (y 1).isLt⟩) else
    if (y 0).val / 256 * 256 = 256 ∧ (y 1).val = t * 4 + 2 + 0 then scalesV (blockH x2 x3 x4 x5 y8 ys 256 256) (ix2 ⟨(y 0).val % 256, Nat.mod_lt _ (by decide)⟩ ⟨(y 1).val, (y 1).isLt⟩) else
    if (y 0).val / 256 * 256 = 0 ∧ (y 1).val = t * 4 + 2 + 1 then scalesV (blockH x2 x3 x4 x5 y8 ys 0 384) (ix2 ⟨(y 0).val % 256, Nat.mod_lt _ (by decide)⟩ ⟨(y 1).val, (y 1).isLt⟩) else
    if (y 0).val / 256 * 256 = 0 ∧ (y 1).val = t * 4 + 2 + 0 then scalesV (blockH x2 x3 x4 x5 y8 ys 0 256) (ix2 ⟨(y 0).val % 256, Nat.mod_lt _ (by decide)⟩ ⟨(y 1).val, (y 1).isLt⟩) else
    if (y 0).val / 256 * 256 = 768 ∧ (y 1).val = t * 4 + 0 + 1 then scalesV (blockH x2 x3 x4 x5 y8 ys 768 128) (ix2 ⟨(y 0).val % 256, Nat.mod_lt _ (by decide)⟩ ⟨(y 1).val, (y 1).isLt⟩) else
    if (y 0).val / 256 * 256 = 768 ∧ (y 1).val = t * 4 + 0 + 0 then scalesV (blockH x2 x3 x4 x5 y8 ys 768 0) (ix2 ⟨(y 0).val % 256, Nat.mod_lt _ (by decide)⟩ ⟨(y 1).val, (y 1).isLt⟩) else
    if (y 0).val / 256 * 256 = 512 ∧ (y 1).val = t * 4 + 0 + 1 then scalesV (blockH x2 x3 x4 x5 y8 ys 512 128) (ix2 ⟨(y 0).val % 256, Nat.mod_lt _ (by decide)⟩ ⟨(y 1).val, (y 1).isLt⟩) else
    if (y 0).val / 256 * 256 = 512 ∧ (y 1).val = t * 4 + 0 + 0 then scalesV (blockH x2 x3 x4 x5 y8 ys 512 0) (ix2 ⟨(y 0).val % 256, Nat.mod_lt _ (by decide)⟩ ⟨(y 1).val, (y 1).isLt⟩) else
    if (y 0).val / 256 * 256 = 256 ∧ (y 1).val = t * 4 + 0 + 1 then scalesV (blockH x2 x3 x4 x5 y8 ys 256 128) (ix2 ⟨(y 0).val % 256, Nat.mod_lt _ (by decide)⟩ ⟨(y 1).val, (y 1).isLt⟩) else
    if (y 0).val / 256 * 256 = 256 ∧ (y 1).val = t * 4 + 0 + 0 then scalesV (blockH x2 x3 x4 x5 y8 ys 256 0) (ix2 ⟨(y 0).val % 256, Nat.mod_lt _ (by decide)⟩ ⟨(y 1).val, (y 1).isLt⟩) else
    if (y 0).val / 256 * 256 = 0 ∧ (y 1).val = t * 4 + 0 + 1 then scalesV (blockH x2 x3 x4 x5 y8 ys 0 128) (ix2 ⟨(y 0).val % 256, Nat.mod_lt _ (by decide)⟩ ⟨(y 1).val, (y 1).isLt⟩) else
    if (y 0).val / 256 * 256 = 0 ∧ (y 1).val = t * 4 + 0 + 0 then scalesV (blockH x2 x3 x4 x5 y8 ys 0 0) (ix2 ⟨(y 0).val % 256, Nat.mod_lt _ (by decide)⟩ ⟨(y 1).val, (y 1).isLt⟩) else y7 y) = hsB t x2 x3 x4 x5 y8 ys y7 y :=
  ladder16 (fun R C => scalesV (blockH x2 x3 x4 x5 y8 ys R C) (ix2 ⟨(y 0).val % 256, Nat.mod_lt _ (by decide)⟩ ⟨(y 1).val, (y 1).isLt⟩))
    (y7 y) (y 0).val (y 1).val t (y 0).isLt

/-- The product of the loaded operands of a left column block is that block of the point's product. -/
theorem loads_left {arg3 arg4 : Memref sig .tc .vmem S2560x512 .fp8e4m3} {arg5 arg6 : Memref sig .tc .vmem S1x512 .f32}
    {arg9 : Memref sig .tc .vmem S1024x2560 .fp8e4m3} {arg11 : Memref sig .tc .vmem S1024x128 .f32}
    {f8 : arg9.view.ty.Contents (Elt F)} {f2 : arg3.view.ty.Contents (Elt F)} {f3 : arg4.view.ty.Contents (Elt F)}
    {f4 : arg5.view.ty.Contents (Elt F)} {f5 : arg6.view.ty.Contents (Elt F)} {fs : arg11.view.ty.Contents (Elt F)}
    {x2 x3 : Vec F S2560x512 .fp8e4m3} {x4 x5 : Vec F S1x512 .f32} {y8 : Vec F S1024x2560 .fp8e4m3} {ys : Vec F S1024x128 .f32}
    (hf8 : View.read (Elt F) arg9.view f8 = y8) (hf2 : View.read (Elt F) arg3.view f2 = x2) (hf3 : View.read (Elt F) arg4.view f3 = x3)
    (hf4 : View.read (Elt F) arg5.view f4 = x4) (hf5 : View.read (Elt F) arg6.view f5 = x5) (hfs : View.read (Elt F) arg11.view fs = ys)
    (R C : ℕ) (hC : C % 256 = 0)
    (h9 : ∀ a, (![R, 0] : Fin 2 → ℕ) a + S256x2560.size a ≤ S1024x2560.size a)
    (hw : ∀ a, (![0, C] : Fin 2 → ℕ) a + S2560x256.size a ≤ S2560x512.size a)
    (h11 : ∀ a, (![R, 0] : Fin 2 → ℕ) a + S256x128.size a ≤ S1024x128.size a)
    (hs : ∀ a, (![0, C] : Fin 2 → ℕ) a + S1x128.size a ≤ S1x512.size a) :
    prodV (halfL (View.readAt (Elt F) arg9.view (Rect.unit (s := S1024x2560) ![R, 0] S256x2560.size h9).toLoadRect f8)
        (View.readAt (Elt F) arg3.view (Rect.unit (s := S2560x512) ![0, C] S2560x256.size hw).toLoadRect f2))
      (halfL (View.readAt (Elt F) arg9.view (Rect.unit (s := S1024x2560) ![R, 0] S256x2560.size h9).toLoadRect f8)
        (View.readAt (Elt F) arg4.view (Rect.unit (s := S2560x512) ![0, C] S2560x256.size hw).toLoadRect f3))
      (View.readAt (Elt F) arg11.view (Rect.unit (s := S1024x128) ![R, 0] S256x128.size h11).toLoadRect fs)
      (View.readAt (Elt F) arg5.view (Rect.unit (s := S1x512) ![0, C] S1x128.size hs).toLoadRect f4)
      (View.readAt (Elt F) arg6.view (Rect.unit (s := S1x512) ![0, C] S1x128.size hs).toLoadRect f5)
      = blockH x2 x3 x4 x5 y8 ys R C := by
  rw [View.readAt_eq_ld, View.readAt_eq_ld, View.readAt_eq_ld, View.readAt_eq_ld, View.readAt_eq_ld, View.readAt_eq_ld,
    hf8, hf2, hf3, hf4, hf5, hfs]
  unfold blockH
  rw [if_pos hC, show C / 256 * 256 = C by omega]
  exact congr (congr (congr (congrArg₂ prodV (congrArg₂ halfL (ld_xcL y8 R h9) (ld_wL x2 C hw)) (congrArg₂ halfL (ld_xcL y8 R h9) (ld_wL x3 C hw)))
    (ld_xsL ys R h11)) (ld_sL x4 C hs)) (ld_sL x5 C hs)

/-- The same of a right column block. -/
theorem loads_right {arg3 arg4 : Memref sig .tc .vmem S2560x512 .fp8e4m3} {arg5 arg6 : Memref sig .tc .vmem S1x512 .f32}
    {arg9 : Memref sig .tc .vmem S1024x2560 .fp8e4m3} {arg11 : Memref sig .tc .vmem S1024x128 .f32}
    {f8 : arg9.view.ty.Contents (Elt F)} {f2 : arg3.view.ty.Contents (Elt F)} {f3 : arg4.view.ty.Contents (Elt F)}
    {f4 : arg5.view.ty.Contents (Elt F)} {f5 : arg6.view.ty.Contents (Elt F)} {fs : arg11.view.ty.Contents (Elt F)}
    {x2 x3 : Vec F S2560x512 .fp8e4m3} {x4 x5 : Vec F S1x512 .f32} {y8 : Vec F S1024x2560 .fp8e4m3} {ys : Vec F S1024x128 .f32}
    (hf8 : View.read (Elt F) arg9.view f8 = y8) (hf2 : View.read (Elt F) arg3.view f2 = x2) (hf3 : View.read (Elt F) arg4.view f3 = x3)
    (hf4 : View.read (Elt F) arg5.view f4 = x4) (hf5 : View.read (Elt F) arg6.view f5 = x5) (hfs : View.read (Elt F) arg11.view fs = ys)
    (R C C' : ℕ) (hC : C % 256 = 0) (hC' : C' = C + 128)
    (h9 : ∀ a, (![R, 0] : Fin 2 → ℕ) a + S256x2560.size a ≤ S1024x2560.size a)
    (hw : ∀ a, (![0, C] : Fin 2 → ℕ) a + S2560x256.size a ≤ S2560x512.size a)
    (h11 : ∀ a, (![R, 0] : Fin 2 → ℕ) a + S256x128.size a ≤ S1024x128.size a)
    (hs : ∀ a, (![0, C'] : Fin 2 → ℕ) a + S1x128.size a ≤ S1x512.size a) :
    prodV (halfR (View.readAt (Elt F) arg9.view (Rect.unit (s := S1024x2560) ![R, 0] S256x2560.size h9).toLoadRect f8)
        (View.readAt (Elt F) arg3.view (Rect.unit (s := S2560x512) ![0, C] S2560x256.size hw).toLoadRect f2))
      (halfR (View.readAt (Elt F) arg9.view (Rect.unit (s := S1024x2560) ![R, 0] S256x2560.size h9).toLoadRect f8)
        (View.readAt (Elt F) arg4.view (Rect.unit (s := S2560x512) ![0, C] S2560x256.size hw).toLoadRect f3))
      (View.readAt (Elt F) arg11.view (Rect.unit (s := S1024x128) ![R, 0] S256x128.size h11).toLoadRect fs)
      (View.readAt (Elt F) arg5.view (Rect.unit (s := S1x512) ![0, C'] S1x128.size hs).toLoadRect f4)
      (View.readAt (Elt F) arg6.view (Rect.unit (s := S1x512) ![0, C'] S1x128.size hs).toLoadRect f5)
      = blockH x2 x3 x4 x5 y8 ys R C' := by
  rw [View.readAt_eq_ld, View.readAt_eq_ld, View.readAt_eq_ld, View.readAt_eq_ld, View.readAt_eq_ld, View.readAt_eq_ld,
    hf8, hf2, hf3, hf4, hf5, hfs]
  unfold blockH
  rw [if_neg (by omega), show C' / 256 * 256 = C by omega]
  exact congr (congr (congr (congrArg₂ prodV (congrArg₂ halfR (ld_xcL y8 R h9) (ld_wL x2 C hw)) (congrArg₂ halfR (ld_xcL y8 R h9) (ld_wL x3 C hw)))
    (ld_xsL ys R h11)) (ld_sL x4 C' hs)) (ld_sL x5 C' hs)

end Cert.KernelIdeal.Hand

end
-- ==== Proof.Loop.lean ====
module

public import proofs.«01_k».proof.Proof.Setup

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F] [Named F]

/-! ## What thirty-two rows of the input give -/

/-- The codes of thirty-two rows. -/
def rowCodes (x : Vec F S32x2560 .bf16) (g : Vec F S1x2560 .f32) : FVec F S32x2560 .fp8e4m3 :=
  clipV (mulf (k0_pay3 x g) (broadcastTo S32x2560
    (extractStridedSlice S32x1 ![0, 0] (invV (k0_pay4 x g)) slices_S32x128_o0_0_S32x1) broadcasts_S32x1_S32x2560))

/-- Their scales, on every lane. -/
def rowScales (x : Vec F S32x2560 .bf16) (g : Vec F S1x2560 .f32) : FVec F S32x128 .f32 := scaleV (k0_pay4 x g)

/-- Thirty-two rows of the input from row `R`. -/
def rowsL (y : Vec F S1024x2560 .bf16) (R : ℕ) : Vec F S32x2560 .bf16 :=
  fun x => y (ix2 ⟨(R + (x 0).val) % 1024, Nat.mod_lt _ (by decide)⟩ ⟨(x 1).val, (x 1).isLt⟩)

set_option maxHeartbeats 4000000 in
theorem tripL_eq (𝒱 : Variants) (c : Dev nD) (bd : Option 𝒱.V) (i : grid0.Coords) (arg1 : Memref sig .tc .vmem S1024x2560 .bf16) (harg1 : arg1.IsWhole) (arg2 : Memref sig .tc .vmem S1x2560 .f32) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole) (arg11 : Memref sig .tc .vmem S1024x128 .f32) (harg11 : arg11.IsWhole) (k0_h1 : k0_cond1 i = 1#1) (X_arg1 : BufTy.Contents (Elt F) arg1.view.ty) (X_arg2 : BufTy.Contents (Elt F) arg2.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 k0_h1 X_arg1 X_arg2 k
      = ([⟨Rect.unit (s := S1024x2560) (k0_off1 k) S32x2560.size (k0_off1_inb i k k0_h1),
            rowCodes (View.readAt (Elt F) arg1.view (Rect.unit (s := S1024x2560) (k0_off1 k) S32x2560.size (k0_off1_inb i k k0_h1)).toLoadRect X_arg1)
              (View.readAt (Elt F) arg2.view (Rect.unit (s := S1x2560) ![0, 0] S1x2560.size inb_S1x2560_S1x2560_0_0).toLoadRect X_arg2)⟩],
         [⟨Rect.unit (s := S1024x1) (k0_off2 k) S32x1.size (k0_off2_inb i k k0_h1),
            extractStridedSlice S32x1 ![0, 0] (rowScales (View.readAt (Elt F) arg1.view (Rect.unit (s := S1024x2560) (k0_off1 k) S32x2560.size (k0_off1_inb i k k0_h1)).toLoadRect X_arg1)
              (View.readAt (Elt F) arg2.view (Rect.unit (s := S1x2560) ![0, 0] S1x2560.size inb_S1x2560_S1x2560_0_0).toLoadRect X_arg2)) slices_S32x128_o0_0_S32x1⟩],
         [⟨Rect.unit (s := S1024x128) (k0_off3 k) S32x128.size (k0_off3_inb i k k0_h1),
            shapeCast S32x128 (rowScales (View.readAt (Elt F) arg1.view (Rect.unit (s := S1024x2560) (k0_off1 k) S32x2560.size (k0_off1_inb i k k0_h1)).toLoadRect X_arg1)
              (View.readAt (Elt F) arg2.view (Rect.unit (s := S1x2560) ![0, 0] S1x2560.size inb_S1x2560_S1x2560_0_0).toLoadRect X_arg2)) shapeCasts_S32x128_S32x128⟩]) := by
  unfold tripL_k0_t1
  unfold trip_k0_t1
  rfl

/-- The codes of all rows. -/
def xcF (x0 : Vec F S1024x2560 .bf16) (x1 : Vec F S1x2560 .f32) : Vec F S1024x2560 .fp8e4m3 :=
  fun y => rowCodes (rowsL x0 ((y 0).val / 32 * 32)) x1 (ix2 ⟨(y 0).val % 32, Nat.mod_lt _ (by decide)⟩ ⟨(y 1).val, (y 1).isLt⟩)

/-- The scales of all rows, one each. -/
def xsoF (x0 : Vec F S1024x2560 .bf16) (x1 : Vec F S1x2560 .f32) : Vec F S1024x1 .f32 :=
  fun y => rowScales (rowsL x0 ((y 0).val / 32 * 32)) x1 (ix2 ⟨(y 0).val % 32, Nat.mod_lt _ (by decide)⟩ ⟨0, by decide⟩)

/-- The scales of all rows, on every lane. -/
def xsF (x0 : Vec F S1024x2560 .bf16) (x1 : Vec F S1x2560 .f32) : Vec F S1024x128 .f32 :=
  fun y => rowScales (rowsL x0 ((y 0).val / 32 * 32)) x1 (ix2 ⟨(y 0).val % 32, Nat.mod_lt _ (by decide)⟩ ⟨(y 1).val, (y 1).isLt⟩)

theorem xcF_at (x0 : Vec F S1024x2560 .bf16) (x1 : Vec F S1x2560 .f32) (y : S1024x2560.Idx) (k r : ℕ) (hr : r < 32)
    (hy : (y 0).val = 32 * k + r) :
    xcF x0 x1 y = rowCodes (rowsL x0 (32 * k)) x1 (ix2 ⟨r, hr⟩ ⟨(y 1).val, (y 1).isLt⟩) := by
  have q : (y 0).val / 32 * 32 = 32 * k := by omega
  have e : (y 0).val % 32 = r := by omega
  unfold xcF
  rw [q]
  exact congrArg (fun a => rowCodes (rowsL x0 (32 * k)) x1 (ix2 a _)) (Fin.ext e)

theorem xsoF_at (x0 : Vec F S1024x2560 .bf16) (x1 : Vec F S1x2560 .f32) (y : S1024x1.Idx) (k r : ℕ) (hr : r < 32)
    (hy : (y 0).val = 32 * k + r) :
    xsoF x0 x1 y = rowScales (rowsL x0 (32 * k)) x1 (ix2 ⟨r, hr⟩ ⟨0, by decide⟩) := by
  have q : (y 0).val / 32 * 32 = 32 * k := by omega
  have e : (y 0).val % 32 = r := by omega
  unfold xsoF
  rw [q]
  exact congrArg (fun a => rowScales (rowsL x0 (32 * k)) x1 (ix2 a _)) (Fin.ext e)

theorem xsF_at (x0 : Vec F S1024x2560 .bf16) (x1 : Vec F S1x2560 .f32) (y : S1024x128.Idx) (k r : ℕ) (hr : r < 32)
    (hy : (y 0).val = 32 * k + r) :
    xsF x0 x1 y = rowScales (rowsL x0 (32 * k)) x1 (ix2 ⟨r, hr⟩ ⟨(y 1).val, (y 1).isLt⟩) := by
  have q : (y 0).val / 32 * 32 = 32 * k := by omega
  have e : (y 0).val % 32 = r := by omega
  unfold xsF
  rw [q]
  exact congrArg (fun a => rowScales (rowsL x0 (32 * k)) x1 (ix2 a _)) (Fin.ext e)

theorem k0_off1_eq : ∀ k : Fin k0_t1_loop.trips, k0_off1 k = ![32 * k.val, 0] := by decide +kernel
theorem k0_off2_eq : ∀ k : Fin k0_t1_loop.trips, k0_off2 k = ![32 * k.val, 0] := by decide +kernel
theorem k0_off3_eq : ∀ k : Fin k0_t1_loop.trips, k0_off3 k = ![32 * k.val, 0] := by decide +kernel
theorem trips_eq : k0_t1_loop.trips = 32 := by decide +kernel
theorem trip_lt (k : Fin k0_t1_loop.trips) : k.val < 32 := lt_of_lt_of_le k.isLt k0_t1_abs.2.1

theorem mem_off1 (i : grid0.Coords) (h1 : k0_cond1 i = 1#1) (k : Fin k0_t1_loop.trips) (y : S1024x2560.Idx)
    (hl : 32 * k.val ≤ (y 0).val) (hu : (y 0).val < 32 * (k.val + 1)) :
    y ∈ (Rect.unit (s := S1024x2560) (k0_off1 k) S32x2560.size (k0_off1_inb i k h1)).set := by
  refine Rect.mem_set_unit.mpr fun a => ?_
  have hy : (y 1).val < 2560 := (y 1).isLt
  rw [k0_off1_eq]
  fin_cases a
  · show 32 * k.val ≤ (y 0).val ∧ (y 0).val < 32 * k.val + 32; omega
  · show 0 ≤ (y 1).val ∧ (y 1).val < 0 + 2560; omega

theorem mem_off2 (i : grid0.Coords) (h1 : k0_cond1 i = 1#1) (k : Fin k0_t1_loop.trips) (y : S1024x1.Idx)
    (hl : 32 * k.val ≤ (y 0).val) (hu : (y 0).val < 32 * (k.val + 1)) :
    y ∈ (Rect.unit (s := S1024x1) (k0_off2 k) S32x1.size (k0_off2_inb i k h1)).set := by
  refine Rect.mem_set_unit.mpr fun a => ?_
  have hy : (y 1).val < 1 := (y 1).isLt
  rw [k0_off2_eq]
  fin_cases a
  · show 32 * k.val ≤ (y 0).val ∧ (y 0).val < 32 * k.val + 32; omega
  · show 0 ≤ (y 1).val ∧ (y 1).val < 0 + 1; omega

theorem mem_off3 (i : grid0.Coords) (h1 : k0_cond1 i = 1#1) (k : Fin k0_t1_loop.trips) (y : S1024x128.Idx)
    (hl : 32 * k.val ≤ (y 0).val) (hu : (y 0).val < 32 * (k.val + 1)) :
    y ∈ (Rect.unit (s := S1024x128) (k0_off3 k) S32x128.size (k0_off3_inb i k h1)).set := by
  refine Rect.mem_set_unit.mpr fun a => ?_
  have hy : (y 1).val < 128 := (y 1).isLt
  rw [k0_off3_eq]
  fin_cases a
  · show 32 * k.val ≤ (y 0).val ∧ (y 0).val < 32 * k.val + 32; omega
  · show 0 ≤ (y 1).val ∧ (y 1).val < 0 + 128; omega

theorem emb_off1 (i : grid0.Coords) (h1 : k0_cond1 i = 1#1) (k : Fin k0_t1_loop.trips)
    (x : (Rect.unit (s := S1024x2560) (k0_off1 k) S32x2560.size (k0_off1_inb i k h1)).shape.Idx) :
    (((Rect.unit (s := S1024x2560) (k0_off1 k) S32x2560.size (k0_off1_inb i k h1)).emb x) 0).val = 32 * k.val + (x 0).val
      ∧ (((Rect.unit (s := S1024x2560) (k0_off1 k) S32x2560.size (k0_off1_inb i k h1)).emb x) 1).val = (x 1).val := by
  constructor
  · show k0_off1 k 0 + 1 * (x 0).val = _
    rw [show _ = _ from congrFun (k0_off1_eq k) _]; show 32 * k.val + 1 * _ = _; omega
  · show k0_off1 k 1 + 1 * (x 1).val = _
    rw [show _ = _ from congrFun (k0_off1_eq k) _]; show 0 + 1 * _ = _; omega

theorem emb_off2 (i : grid0.Coords) (h1 : k0_cond1 i = 1#1) (k : Fin k0_t1_loop.trips)
    (x : (Rect.unit (s := S1024x1) (k0_off2 k) S32x1.size (k0_off2_inb i k h1)).shape.Idx) :
    (((Rect.unit (s := S1024x1) (k0_off2 k) S32x1.size (k0_off2_inb i k h1)).emb x) 0).val = 32 * k.val + (x 0).val
      ∧ (((Rect.unit (s := S1024x1) (k0_off2 k) S32x1.size (k0_off2_inb i k h1)).emb x) 1).val = (x 1).val := by
  constructor
  · show k0_off2 k 0 + 1 * (x 0).val = _
    rw [show _ = _ from congrFun (k0_off2_eq k) _]; show 32 * k.val + 1 * _ = _; omega
  · show k0_off2 k 1 + 1 * (x 1).val = _
    rw [show _ = _ from congrFun (k0_off2_eq k) _]; show 0 + 1 * _ = _; omega

theorem emb_off3 (i : grid0.Coords) (h1 : k0_cond1 i = 1#1) (k : Fin k0_t1_loop.trips)
    (x : (Rect.unit (s := S1024x128) (k0_off3 k) S32x128.size (k0_off3_inb i k h1)).shape.Idx) :
    (((Rect.unit (s := S1024x128) (k0_off3 k) S32x128.size (k0_off3_inb i k h1)).emb x) 0).val = 32 * k.val + (x 0).val
      ∧ (((Rect.unit (s := S1024x128) (k0_off3 k) S32x128.size (k0_off3_inb i k h1)).emb x) 1).val = (x 1).val := by
  constructor
  · show k0_off3 k 0 + 1 * (x 0).val = _
    rw [show _ = _ from congrFun (k0_off3_eq k) _]; show 32 * k.val + 1 * _ = _; omega
  · show k0_off3 k 1 + 1 * (x 1).val = _
    rw [show _ = _ from congrFun (k0_off3_eq k) _]; show 0 + 1 * _ = _; omega

theorem ld_rows (x0 : Vec F S1024x2560 .bf16) (i : grid0.Coords) (h1 : k0_cond1 i = 1#1) (k : Fin k0_t1_loop.trips) :
    View.ld (Val := Elt F) (S := S1024x2560) (e' := .bf16) x0 (Rect.unit (s := S1024x2560) (k0_off1 k) S32x2560.size (k0_off1_inb i k h1))
      = rowsL x0 (32 * k.val) := by
  funext x
  have e := emb_off1 i h1 k x
  have hk := trip_lt k
  have hx : (x 0).val < 32 := (x 0).isLt
  show x0 ((Rect.unit (s := S1024x2560) (k0_off1 k) S32x2560.size (k0_off1_inb i k h1)).emb x) = _
  unfold rowsL
  congr 1
  funext a
  fin_cases a
  · apply Fin.ext
    show _ = (32 * k.val + (x 0).val) % 1024
    rw [Nat.mod_eq_of_lt (by omega)]; exact e.1
  · exact Fin.ext e.2

theorem ld_gain (x1 : Vec F S1x2560 .f32) :
    View.ld (Val := Elt F) (S := S1x2560) (e' := .f32) x1 (Rect.unit (s := S1x2560) ![0, 0] S1x2560.size inb_S1x2560_S1x2560_0_0) = x1 := by
  funext x
  show x1 ((Rect.unit (s := S1x2560) ![0, 0] S1x2560.size inb_S1x2560_S1x2560_0_0).emb x) = _
  congr 1
  funext a
  fin_cases a
  · apply Fin.ext; show 0 + 1 * (x 0).val = (x 0).val; omega
  · apply Fin.ext; show 0 + 1 * (x 1).val = (x 1).val; omega

theorem two_ext {m n : ℕ} (x : (⟨2, ![m, n]⟩ : Shape).Idx) (y : (⟨2, ![m, n]⟩ : Shape).Idx)
    (h0 : (x 0).val = (y 0).val) (h1 : (x 1).val = (y 1).val) : x = y := by
  funext a
  fin_cases a
  · exact Fin.ext h0
  · exact Fin.ext h1

theorem cast_same (v : FVec F S32x128 .f32) (x : S32x128.Idx) : shapeCast S32x128 v shapeCasts_S32x128_S32x128 x = v x := by
  idx_vars x
  pointwise

/-- The pieces `L` write the rows below `32 * n`, each with `G`'s values. -/
def Rows {s : Shape} {e : EltTy} (a0 : Fin s.rank) (G : s.Idx → Elt F e) (n : ℕ) (L : List (View.Piece (Elt F) s e)) : Prop :=
  (∀ p ∈ L, ∀ x, p.2 x = G (p.1.emb x)) ∧ ∀ y : s.Idx, (y a0).val < 32 * n → ∃ p ∈ L, y ∈ p.1.set

theorem Rows.nil {s : Shape} {e : EltTy} (a0 : Fin s.rank) (G : s.Idx → Elt F e) : Rows a0 G 0 [] :=
  ⟨fun p hp => absurd hp List.not_mem_nil, fun y hy => absurd hy (by omega)⟩

theorem Rows.cons {s : Shape} {e : EltTy} {a0 : Fin s.rank} {G : s.Idx → Elt F e} {n : ℕ} {L : List (View.Piece (Elt F) s e)}
    (H : Rows a0 G n L) (r : Rect s) (w : r.shape.Idx → Elt F e) (hw : ∀ x, w x = G (r.emb x))
    (hr : ∀ y : s.Idx, 32 * n ≤ (y a0).val → (y a0).val < 32 * (n + 1) → y ∈ r.set) : Rows a0 G (n + 1) (⟨r, w⟩ :: L) := by
  refine ⟨?_, fun y hy => ?_⟩
  · intro p hp
    rcases List.mem_cons.mp hp with rfl | hp
    · exact hw
    · exact H.1 p hp
  · by_cases h : (y a0).val < 32 * n
    · obtain ⟨p, hp, hy⟩ := H.2 y h
      exact ⟨p, List.mem_cons_of_mem _ hp, hy⟩
    · exact ⟨_, List.mem_cons_self, hr y (by omega) hy⟩

set_option maxHeartbeats 1000000 in
theorem rows_pb (𝒱 : Variants) (c : Dev nD) (bd : Option 𝒱.V) (i : grid0.Coords) (arg1 : Memref sig .tc .vmem S1024x2560 .bf16) (harg1 : arg1.IsWhole) (arg2 : Memref sig .tc .vmem S1x2560 .f32) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole) (arg11 : Memref sig .tc .vmem S1024x128 .f32) (harg11 : arg11.IsWhole) (k0_h1 : k0_cond1 i = 1#1) (X_arg1 : BufTy.Contents (Elt F) arg1.view.ty) (X_arg2 : BufTy.Contents (Elt F) arg2.view.ty)
    {x0 : Vec F S1024x2560 .bf16} {x1 : Vec F S1x2560 .f32}
    (h0 : View.read (Elt F) arg1.view X_arg1 = x0) (h1 : View.read (Elt F) arg2.view X_arg2 = x1) :
    ∀ n : ℕ, n ≤ k0_t1_loop.trips →
      Rows (s := S1024x2560) 0 (xcF x0 x1) n (pb_k0_t1 (F := F) 𝒱 c bd i arg1 harg1 arg2 harg2 arg3 harg3 arg4 harg4 arg5 harg5 arg6 harg6 arg7 harg7 arg8 harg8 arg9 harg9 arg10 harg10 arg11 harg11 k0_h1 X_arg1 X_arg2 n).1
      ∧ Rows (s := S1024x1) 0 (xsoF x0 x1) n (pb_k0_t1 (F := F) 𝒱 c bd i arg1 harg1 arg2 harg2 arg3 harg3 arg4 harg4 arg5 harg5 arg6 harg6 arg7 harg7 arg8 harg8 arg9 harg9 arg10 harg10 arg11 harg11 k0_h1 X_arg1 X_arg2 n).2.1
      ∧ Rows (s := S1024x128) 0 (xsF x0 x1) n (pb_k0_t1 (F := F) 𝒱 c bd i arg1 harg1 arg2 harg2 arg3 harg3 arg4 harg4 arg5 harg5 arg6 harg6 arg7 harg7 arg8 harg8 arg9 harg9 arg10 harg10 arg11 harg11 k0_h1 X_arg1 X_arg2 n).2.2
  | 0, _ => ⟨Rows.nil _ _, Rows.nil _ _, Rows.nil _ _⟩
  | k + 1, hk => by
    obtain ⟨r1, r2, r3⟩ := rows_pb 𝒱 c bd i arg1 harg1 arg2 harg2 arg3 harg3 arg4 harg4 arg5 harg5 arg6 harg6 arg7 harg7 arg8 harg8 arg9 harg9 arg10 harg10 arg11 harg11 k0_h1 X_arg1 X_arg2 h0 h1 k (Nat.le_of_succ_le hk)
    rw [pb_k0_t1_succ 𝒱 c bd i arg1 harg1 arg2 harg2 arg3 harg3 arg4 harg4 arg5 harg5 arg6 harg6 arg7 harg7 arg8 harg8 arg9 harg9 arg10 harg10 arg11 harg11 k0_h1 X_arg1 X_arg2 ⟨k, hk⟩, tripL_eq]
    refine ⟨r1.cons _ _ ?_ (mem_off1 i k0_h1 ⟨k, hk⟩), r2.cons _ _ ?_ (mem_off2 i k0_h1 ⟨k, hk⟩), r3.cons _ _ ?_ (mem_off3 i k0_h1 ⟨k, hk⟩)⟩
    · exact
      fun x => by
        have e := emb_off1 i k0_h1 ⟨k, hk⟩ x
        have hx : (x 0).val < 32 := (x 0).isLt
        rw [View.readAt_eq_ld, View.readAt_eq_ld, h0, h1, ld_rows x0 i k0_h1, ld_gain, xcF_at x0 x1 _ k (x 0).val hx e.1]
        exact congrArg (rowCodes (rowsL x0 (32 * k)) x1) (two_ext x _ rfl e.2.symm)
    · exact
      fun x => by
        have e := emb_off2 i k0_h1 ⟨k, hk⟩ x
        have hx : (x 0).val < 32 := (x 0).isLt
        rw [View.readAt_eq_ld, View.readAt_eq_ld, h0, h1, ld_rows x0 i k0_h1, ld_gain, xsoF_at x0 x1 _ k (x 0).val hx e.1]
        have hx1 : (x 1).val < 1 := (x 1).isLt
        idx_vars x
        pointwise
    · exact
      fun x => by
        have e := emb_off3 i k0_h1 ⟨k, hk⟩ x
        have hx : (x 0).val < 32 := (x 0).isLt
        rw [View.readAt_eq_ld, View.readAt_eq_ld, h0, h1, ld_rows x0 i k0_h1, ld_gain, xsF_at x0 x1 _ k (x 0).val hx e.1]
        exact (cast_same _ x).trans (congrArg (rowScales (rowsL x0 (32 * k)) x1) (two_ext x _ rfl e.2.symm))

theorem codes_read (𝒱 : Variants) (c : Dev nD) (bd : Option 𝒱.V) (i : grid0.Coords) (arg1 : Memref sig .tc .vmem S1024x2560 .bf16) (harg1 : arg1.IsWhole) (arg2 : Memref sig .tc .vmem S1x2560 .f32) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole) (arg11 : Memref sig .tc .vmem S1024x128 .f32) (harg11 : arg11.IsWhole) (k0_h1 : k0_cond1 i = 1#1) (X_arg1 : BufTy.Contents (Elt F) arg1.view.ty) (X_arg2 : BufTy.Contents (Elt F) arg2.view.ty)
    {x0 : Vec F S1024x2560 .bf16} {x1 : Vec F S1x2560 .f32} (f : arg9.view.ty.Contents (Elt F))
    (h0 : View.read (Elt F) arg1.view X_arg1 = x0) (h1 : View.read (Elt F) arg2.view X_arg2 = x1) :
    View.read (Elt F) arg9.view (arg9.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 k0_h1 X_arg1 X_arg2
      (Scf.trips k0_t1_loop.lb k0_t1_loop.ub k0_t1_loop.st)).1) = xcF x0 x1 := by
  funext y
  have R := rows_pb 𝒱 c bd i arg1 harg1 arg2 harg2 arg3 harg3 arg4 harg4 arg5 harg5 arg6 harg6 arg7 harg7 arg8 harg8 arg9 harg9 arg10 harg10 arg11 harg11 k0_h1 X_arg1 X_arg2 h0 h1 k0_t1_loop.trips le_rfl
  refine View.read_writes_apply_of_pieces _ _ (xcF x0 x1) _ ?_ y ?_
  · exact R.1.1
  · exact R.1.2 y (by have h : (y 0).val < 1024 := (y 0).isLt; rw [trips_eq]; exact h)

theorem outScales_read (𝒱 : Variants) (c : Dev nD) (bd : Option 𝒱.V) (i : grid0.Coords) (arg1 : Memref sig .tc .vmem S1024x2560 .bf16) (harg1 : arg1.IsWhole) (arg2 : Memref sig .tc .vmem S1x2560 .f32) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole) (arg11 : Memref sig .tc .vmem S1024x128 .f32) (harg11 : arg11.IsWhole) (k0_h1 : k0_cond1 i = 1#1) (X_arg1 : BufTy.Contents (Elt F) arg1.view.ty) (X_arg2 : BufTy.Contents (Elt F) arg2.view.ty)
    {x0 : Vec F S1024x2560 .bf16} {x1 : Vec F S1x2560 .f32} (f : arg10.view.ty.Contents (Elt F))
    (h0 : View.read (Elt F) arg1.view X_arg1 = x0) (h1 : View.read (Elt F) arg2.view X_arg2 = x1) :
    View.read (Elt F) arg10.view (arg10.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 k0_h1 X_arg1 X_arg2
      (Scf.trips k0_t1_loop.lb k0_t1_loop.ub k0_t1_loop.st)).2.1) = xsoF x0 x1 := by
  funext y
  have R := rows_pb 𝒱 c bd i arg1 harg1 arg2 harg2 arg3 harg3 arg4 harg4 arg5 harg5 arg6 harg6 arg7 harg7 arg8 harg8 arg9 harg9 arg10 harg10 arg11 harg11 k0_h1 X_arg1 X_arg2 h0 h1 k0_t1_loop.trips le_rfl
  refine View.read_writes_apply_of_pieces _ _ (xsoF x0 x1) _ ?_ y ?_
  · exact R.2.1.1
  · exact R.2.1.2 y (by have h : (y 0).val < 1024 := (y 0).isLt; rw [trips_eq]; exact h)

theorem scales_read (𝒱 : Variants) (c : Dev nD) (bd : Option 𝒱.V) (i : grid0.Coords) (arg1 : Memref sig .tc .vmem S1024x2560 .bf16) (harg1 : arg1.IsWhole) (arg2 : Memref sig .tc .vmem S1x2560 .f32) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole) (arg11 : Memref sig .tc .vmem S1024x128 .f32) (harg11 : arg11.IsWhole) (k0_h1 : k0_cond1 i = 1#1) (X_arg1 : BufTy.Contents (Elt F) arg1.view.ty) (X_arg2 : BufTy.Contents (Elt F) arg2.view.ty)
    {x0 : Vec F S1024x2560 .bf16} {x1 : Vec F S1x2560 .f32} (f : arg11.view.ty.Contents (Elt F))
    (h0 : View.read (Elt F) arg1.view X_arg1 = x0) (h1 : View.read (Elt F) arg2.view X_arg2 = x1) :
    View.read (Elt F) arg11.view (arg11.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 k0_h1 X_arg1 X_arg2
      (Scf.trips k0_t1_loop.lb k0_t1_loop.ub k0_t1_loop.st)).2.2) = xsF x0 x1 := by
  funext y
  have R := rows_pb 𝒱 c bd i arg1 harg1 arg2 harg2 arg3 harg3 arg4 harg4 arg5 harg5 arg6 harg6 arg7 harg7 arg8 harg8 arg9 harg9 arg10 harg10 arg11 harg11 k0_h1 X_arg1 X_arg2 h0 h1 k0_t1_loop.trips le_rfl
  refine View.read_writes_apply_of_pieces _ _ (xsF x0 x1) _ ?_ y ?_
  · exact R.2.2.1
  · exact R.2.2.2 y (by have h : (y 0).val < 1024 := (y 0).isLt; rw [trips_eq]; exact h)

end Cert.KernelIdeal.Hand

end
-- ==== Proof.RunA.lean ====
module

public import proofs.«01_k».proof.Proof.Gen.KernelIdeal.Frame
public import proofs.«01_k».proof.Proof.Gen.KernelIdeal.Loops
public import proofs.«01_k».proof.Proof.Loop

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F] [Named F]

set_option maxHeartbeats 4000000 in
theorem runA (c : Dev nD) (i : grid0.Coords) (arg1 : Memref sig .tc .vmem S1024x2560 .bf16) (harg1 : arg1.IsWhole) (arg2 : Memref sig .tc .vmem S1x2560 .f32) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole) (arg11 : Memref sig .tc .vmem S1024x128 .f32) (harg11 : arg11.IsWhole) (hc0 : cond0_0 i) (t : ℕ) (ht : t < 20) (hi : (i 0).val = t)
    (x0 : Vec F S1024x2560 .bf16) (x1 : Vec F S1x2560 .f32) (x2 : Vec F S2560x512 .fp8e4m3) (x3 : Vec F S2560x512 .fp8e4m3) (x4 : Vec F S1x512 .f32) (x5 : Vec F S1x512 .f32) (y7 : Vec F S1024x80 .f32)  :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare y7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hcB x2 x3 x4 x5 (xcF x0 x1) (xsF x0 x1)) ∗ owns (c : Thread nD τ) arg8 fullShare (hsB t x2 x3 x4 x5 (xcF x0 x1) (xsF x0 x1) y7) ∗ owns (c : Thread nD τ) arg9 fullShare (xcF x0 x1) ∗ owns (c : Thread nD τ) arg10 fullShare (xsoF x0 x1) ∗ owns (c : Thread nD τ) arg11 fullShare (xsF x0 x1)) -∗ K ⟨⟩))
          ⊢ wp frame (wpE (defs₀ (F := F)) Variants.none c none) E (cc0_rmsnorm_geglu_fp8 i arg1 harg1 arg2 harg2 arg3 harg3 arg4 harg4 arg5 harg5 arg6 harg6 arg7 harg7 arg8 harg8 arg9 harg9 arg10 harg10 arg11 harg11) K := by
    intro E K
    simp only [cc0_rmsnorm_geglu_fp8_eq_skeleton]; unfold cc0_rmsnorm_geglu_fp8_skel
    simp only [k0_part41_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    have hf8 := codes_read Variants.none c none i arg1 harg1 arg2 harg2 arg3 harg3 arg4 harg4 arg5 harg5 arg6 harg6 arg7 harg7 arg8 harg8 arg9 harg9 arg10 harg10 arg11 harg11 hc0 _ _ f8 hf0 hf1
    have hf9 := outScales_read Variants.none c none i arg1 harg1 arg2 harg2 arg3 harg3 arg4 harg4 arg5 harg5 arg6 harg6 arg7 harg7 arg8 harg8 arg9 harg9 arg10 harg10 arg11 harg11 hc0 _ _ f9 hf0 hf1
    have hfs0 := scales_read Variants.none c none i arg1 harg1 arg2 harg2 arg3 harg3 arg4 harg4 arg5 harg5 arg6 harg6 arg7 harg7 arg8 harg8 arg9 harg9 arg10 harg10 arg11 harg11 hc0 _ _ fs0 hf0 hf1
    have b_0_0 := loads_left hf8 hf2 hf3 hf4 hf5 hfs0 0 0 (by decide) inb_S1024x2560_S256x2560_0_0 inb_S2560x512_S2560x256_0_0 inb_S1024x128_S256x128_0_0 inb_S1x512_S1x128_0_0
    have b_0_128 := loads_right hf8 hf2 hf3 hf4 hf5 hfs0 0 0 128 (by decide) rfl inb_S1024x2560_S256x2560_0_0 inb_S2560x512_S2560x256_0_0 inb_S1024x128_S256x128_0_0 inb_S1x512_S1x128_0_128
    have b_256_0 := loads_left hf8 hf2 hf3 hf4 hf5 hfs0 256 0 (by decide) inb_S1024x2560_S256x2560_256_0 inb_S2560x512_S2560x256_0_0 inb_S1024x128_S256x128_256_0 inb_S1x512_S1x128_0_0
    have b_256_128 := loads_right hf8 hf2 hf3 hf4 hf5 hfs0 256 0 128 (by decide) rfl inb_S1024x2560_S256x2560_256_0 inb_S2560x512_S2560x256_0_0 inb_S1024x128_S256x128_256_0 inb_S1x512_S1x128_0_128
    have b_512_0 := loads_left hf8 hf2 hf3 hf4 hf5 hfs0 512 0 (by decide) inb_S1024x2560_S256x2560_512_0 inb_S2560x512_S2560x256_0_0 inb_S1024x128_S256x128_512_0 inb_S1x512_S1x128_0_0
    have b_512_128 := loads_right hf8 hf2 hf3 hf4 hf5 hfs0 512 0 128 (by decide) rfl inb_S1024x2560_S256x2560_512_0 inb_S2560x512_S2560x256_0_0 inb_S1024x128_S256x128_512_0 inb_S1x512_S1x128_0_128
    have b_768_0 := loads_left hf8 hf2 hf3 hf4 hf5 hfs0 768 0 (by decide) inb_S1024x2560_S256x2560_768_0 inb_S2560x512_S2560x256_0_0 inb_S1024x128_S256x128_768_0 inb_S1x512_S1x128_0_0
    have b_768_128 := loads_right hf8 hf2 hf3 hf4 hf5 hfs0 768 0 128 (by decide) rfl inb_S1024x2560_S256x2560_768_0 inb_S2560x512_S2560x256_0_0 inb_S1024x128_S256x128_768_0 inb_S1x512_S1x128_0_128
    have b_0_256 := loads_left hf8 hf2 hf3 hf4 hf5 hfs0 0 256 (by decide) inb_S1024x2560_S256x2560_0_0 inb_S2560x512_S2560x256_0_256 inb_S1024x128_S256x128_0_0 inb_S1x512_S1x128_0_256
    have b_0_384 := loads_right hf8 hf2 hf3 hf4 hf5 hfs0 0 256 384 (by decide) rfl inb_S1024x2560_S256x2560_0_0 inb_S2560x512_S2560x256_0_256 inb_S1024x128_S256x128_0_0 inb_S1x512_S1x128_0_384
    have b_256_256 := loads_left hf8 hf2 hf3 hf4 hf5 hfs0 256 256 (by decide) inb_S1024x2560_S256x2560_256_0 inb_S2560x512_S2560x256_0_256 inb_S1024x128_S256x128_256_0 inb_S1x512_S1x128_0_256
    have b_256_384 := loads_right hf8 hf2 hf3 hf4 hf5 hfs0 256 256 384 (by decide) rfl inb_S1024x2560_S256x2560_256_0 inb_S2560x512_S2560x256_0_256 inb_S1024x128_S256x128_256_0 inb_S1x512_S1x128_0_384
    have b_512_256 := loads_left hf8 hf2 hf3 hf4 hf5 hfs0 512 256 (by decide) inb_S1024x2560_S256x2560_512_0 inb_S2560x512_S2560x256_0_256 inb_S1024x128_S256x128_512_0 inb_S1x512_S1x128_0_256
    have b_512_384 := loads_right hf8 hf2 hf3 hf4 hf5 hfs0 512 256 384 (by decide) rfl inb_S1024x2560_S256x2560_512_0 inb_S2560x512_S2560x256_0_256 inb_S1024x128_S256x128_512_0 inb_S1x512_S1x128_0_384
    have b_768_256 := loads_left hf8 hf2 hf3 hf4 hf5 hfs0 768 256 (by decide) inb_S1024x2560_S256x2560_768_0 inb_S2560x512_S2560x256_0_256 inb_S1024x128_S256x128_768_0 inb_S1x512_S1x128_0_256
    have b_768_384 := loads_right hf8 hf2 hf3 hf4 hf5 hfs0 768 256 384 (by decide) rfl inb_S1024x2560_S256x2560_768_0 inb_S2560x512_S2560x256_0_256 inb_S1024x128_S256x128_768_0 inb_S1x512_S1x128_0_384
    have w_1 : runA.sl.H7_w1 c i arg1 harg1 arg2 harg2 arg3 harg3 arg4 harg4 arg5 harg5 arg6 harg6 arg7 harg7 arg8 harg8 arg9 harg9 arg10 harg10 arg11 harg11 hc0 x0 x1 x2 x3 x4 x5 f7 f8 fs0 = View.write (Elt F) (arg8.access (Rect.unit (s := S1024x80) ![0, 0] S256x80.size inb_S1024x80_S256x80_0_0)) f7
        (scalesV (blockH x2 x3 x4 x5 (xcF x0 x1) (xsF x0 x1) 0 0)) (IVec.on (maskV (BitVec.ofNat 32 (i 0).val) (BitVec.ofNat 32 0) (BitVec.ofNat 32 0))) := by
      rw [← b_0_0]; rfl
    have w_2 : runA.sl.H7_w2 c i arg1 harg1 arg2 harg2 arg3 harg3 arg4 harg4 arg5 harg5 arg6 harg6 arg7 harg7 arg8 harg8 arg9 harg9 arg10 harg10 arg11 harg11 hc0 x0 x1 x2 x3 x4 x5 f7 f8 fs0 = View.write (Elt F) (arg8.access (Rect.unit (s := S1024x80) ![0, 0] S256x80.size inb_S1024x80_S256x80_0_0)) (runA.sl.H7_w1 c i arg1 harg1 arg2 harg2 arg3 harg3 arg4 harg4 arg5 harg5 arg6 harg6 arg7 harg7 arg8 harg8 arg9 harg9 arg10 harg10 arg11 harg11 hc0 x0 x1 x2 x3 x4 x5 f7 f8 fs0)
        (scalesV (blockH x2 x3 x4 x5 (xcF x0 x1) (xsF x0 x1) 0 128)) (IVec.on (maskV (BitVec.ofNat 32 (i 0).val) (BitVec.ofNat 32 0) (BitVec.ofNat 32 1))) := by
      rw [← b_0_128]; rfl
    have w_3 : runA.sl.H7_w3 c i arg1 harg1 arg2 harg2 arg3 harg3 arg4 harg4 arg5 harg5 arg6 harg6 arg7 harg7 arg8 harg8 arg9 harg9 arg10 harg10 arg11 harg11 hc0 x0 x1 x2 x3 x4 x5 f7 f8 fs0 = View.write (Elt F) (arg8.access (Rect.unit (s := S1024x80) ![256, 0] S256x80.size inb_S1024x80_S256x80_256_0)) (runA.sl.H7_w2 c i arg1 harg1 arg2 harg2 arg3 harg3 arg4 harg4 arg5 harg5 arg6 harg6 arg7 harg7 arg8 harg8 arg9 harg9 arg10 harg10 arg11 harg11 hc0 x0 x1 x2 x3 x4 x5 f7 f8 fs0)
        (scalesV (blockH x2 x3 x4 x5 (xcF x0 x1) (xsF x0 x1) 256 0)) (IVec.on (maskV (BitVec.ofNat 32 (i 0).val) (BitVec.ofNat 32 0) (BitVec.ofNat 32 0))) := by
      rw [← b_256_0]; rfl
    have w_4 : runA.sl.H7_w4 c i arg1 harg1 arg2 harg2 arg3 harg3 arg4 harg4 arg5 harg5 arg6 harg6 arg7 harg7 arg8 harg8 arg9 harg9 arg10 harg10 arg11 harg11 hc0 x0 x1 x2 x3 x4 x5 f7 f8 fs0 = View.write (Elt F) (arg8.access (Rect.unit (s := S1024x80) ![256, 0] S256x80.size inb_S1024x80_S256x80_256_0)) (runA.sl.H7_w3 c i arg1 harg1 arg2 harg2 arg3 harg3 arg4 harg4 arg5 harg5 arg6 harg6 arg7 harg7 arg8 harg8 arg9 harg9 arg10 harg10 arg11 harg11 hc0 x0 x1 x2 x3 x4 x5 f7 f8 fs0)
        (scalesV (blockH x2 x3 x4 x5 (xcF x0 x1) (xsF x0 x1) 256 128)) (IVec.on (maskV (BitVec.ofNat 32 (i 0).val) (BitVec.ofNat 32 0) (BitVec.ofNat 32 1))) := by
      rw [← b_256_128]; rfl
    have w_5 : runA.sl.H7_w5 c i arg1 harg1 arg2 harg2 arg3 harg3 arg4 harg4 arg5 harg5 arg6 harg6 arg7 harg7 arg8 harg8 arg9 harg9 arg10 harg10 arg11 harg11 hc0 x0 x1 x2 x3 x4 x5 f7 f8 fs0 = View.write (Elt F) (arg8.access (Rect.unit (s := S1024x80) ![512, 0] S256x80.size inb_S1024x80_S256x80_512_0)) (runA.sl.H7_w4 c i arg1 harg1 arg2 harg2 arg3 harg3 arg4 harg4 arg5 harg5 arg6 harg6 arg7 harg7 arg8 harg8 arg9 harg9 arg10 harg10 arg11 harg11 hc0 x0 x1 x2 x3 x4 x5 f7 f8 fs0)
        (scalesV (blockH x2 x3 x4 x5 (xcF x0 x1) (xsF x0 x1) 512 0)) (IVec.on (maskV (BitVec.ofNat 32 (i 0).val) (BitVec.ofNat 32 0) (BitVec.ofNat 32 0))) := by
      rw [← b_512_0]; rfl
    have w_6 : runA.sl.H7_w6 c i arg1 harg1 arg2 harg2 arg3 harg3 arg4 harg4 arg5 harg5 arg6 harg6 arg7 harg7 arg8 harg8 arg9 harg9 arg10 harg10 arg11 harg11 hc0 x0 x1 x2 x3 x4 x5 f7 f8 fs0 = View.write (Elt F) (arg8.access (Rect.unit (s := S1024x80) ![512, 0] S256x80.size inb_S1024x80_S256x80_512_0)) (runA.sl.H7_w5 c i arg1 harg1 arg2 harg2 arg3 harg3 arg4 harg4 arg5 harg5 arg6 harg6 arg7 harg7 arg8 harg8 arg9 harg9 arg10 harg10 arg11 harg11 hc0 x0 x1 x2 x3 x4 x5 f7 f8 fs0)
        (scalesV (blockH x2 x3 x4 x5 (xcF x0 x1) (xsF x0 x1) 512 128)) (IVec.on (maskV (BitVec.ofNat 32 (i 0).val) (BitVec.ofNat 32 0) (BitVec.ofNat 32 1))) := by
      rw [← b_512_128]; rfl
    have w_7 : runA.sl.H7_w7 c i arg1 harg1 arg2 harg2 arg3 harg3 arg4 harg4 arg5 harg5 arg6 harg6 arg7 harg7 arg8 harg8 arg9 harg9 arg10 harg10 arg11 harg11 hc0 x0 x1 x2 x3 x4 x5 f7 f8 fs0 = View.write (Elt F) (arg8.access (Rect.unit (s := S1024x80) ![768, 0] S256x80.size inb_S1024x80_S256x80_768_0)) (runA.sl.H7_w6 c i arg1 harg1 arg2 harg2 arg3 harg3 arg4 harg4 arg5 harg5 arg6 harg6 arg7 harg7 arg8 harg8 arg9 harg9 arg10 harg10 arg11 harg11 hc0 x0 x1 x2 x3 x4 x5 f7 f8 fs0)
        (scalesV (blockH x2 x3 x4 x5 (xcF x0 x1) (xsF x0 x1) 768 0)) (IVec.on (maskV (BitVec.ofNat 32 (i 0).val) (BitVec.ofNat 32 0) (BitVec.ofNat 32 0))) := by
      rw [← b_768_0]; rfl
    have w_8 : runA.sl.H7_w8 c i arg1 harg1 arg2 harg2 arg3 harg3 arg4 harg4 arg5 harg5 arg6 harg6 arg7 harg7 arg8 harg8 arg9 harg9 arg10 harg10 arg11 harg11 hc0 x0 x1 x2 x3 x4 x5 f7 f8 fs0 = View.write (Elt F) (arg8.access (Rect.unit (s := S1024x80) ![768, 0] S256x80.size inb_S1024x80_S256x80_768_0)) (runA.sl.H7_w7 c i arg1 harg1 arg2 harg2 arg3 harg3 arg4 harg4 arg5 harg5 arg6 harg6 arg7 harg7 arg8 harg8 arg9 harg9 arg10 harg10 arg11 harg11 hc0 x0 x1 x2 x3 x4 x5 f7 f8 fs0)
        (scalesV (blockH x2 x3 x4 x5 (xcF x0 x1) (xsF x0 x1) 768 128)) (IVec.on (maskV (BitVec.ofNat 32 (i 0).val) (BitVec.ofNat 32 0) (BitVec.ofNat 32 1))) := by
      rw [← b_768_128]; rfl
    have w_9 : runA.sl.H7_w9 c i arg1 harg1 arg2 harg2 arg3 harg3 arg4 harg4 arg5 harg5 arg6 harg6 arg7 harg7 arg8 harg8 arg9 harg9 arg10 harg10 arg11 harg11 hc0 x0 x1 x2 x3 x4 x5 f7 f8 fs0 = View.write (Elt F) (arg8.access (Rect.unit (s := S1024x80) ![0, 0] S256x80.size inb_S1024x80_S256x80_0_0)) (runA.sl.H7_w8 c i arg1 harg1 arg2 harg2 arg3 harg3 arg4 harg4 arg5 harg5 arg6 harg6 arg7 harg7 arg8 harg8 arg9 harg9 arg10 harg10 arg11 harg11 hc0 x0 x1 x2 x3 x4 x5 f7 f8 fs0)
        (scalesV (blockH x2 x3 x4 x5 (xcF x0 x1) (xsF x0 x1) 0 256)) (IVec.on (maskV (BitVec.ofNat 32 (i 0).val) (BitVec.ofNat 32 2) (BitVec.ofNat 32 0))) := by
      rw [← b_0_256]; rfl
    have w_10 : runA.sl.H7_w10 c i arg1 harg1 arg2 harg2 arg3 harg3 arg4 harg4 arg5 harg5 arg6 harg6 arg7 harg7 arg8 harg8 arg9 harg9 arg10 harg10 arg11 harg11 hc0 x0 x1 x2 x3 x4 x5 f7 f8 fs0 = View.write (Elt F) (arg8.access (Rect.unit (s := S1024x80) ![0, 0] S256x80.size inb_S1024x80_S256x80_0_0)) (runA.sl.H7_w9 c i arg1 harg1 arg2 harg2 arg3 harg3 arg4 harg4 arg5 harg5 arg6 harg6 arg7 harg7 arg8 harg8 arg9 harg9 arg10 harg10 arg11 harg11 hc0 x0 x1 x2 x3 x4 x5 f7 f8 fs0)
        (scalesV (blockH x2 x3 x4 x5 (xcF x0 x1) (xsF x0 x1) 0 384)) (IVec.on (maskV (BitVec.ofNat 32 (i 0).val) (BitVec.ofNat 32 2) (BitVec.ofNat 32 1))) := by
      rw [← b_0_384]; rfl
    have w_11 : runA.sl.H7_w11 c i arg1 harg1 arg2 harg2 arg3 harg3 arg4 harg4 arg5 harg5 arg6 harg6 arg7 harg7 arg8 harg8 arg9 harg9 arg10 harg10 arg11 harg11 hc0 x0 x1 x2 x3 x4 x5 f7 f8 fs0 = View.write (Elt F) (arg8.access (Rect.unit (s := S1024x80) ![256, 0] S256x80.size inb_S1024x80_S256x80_256_0)) (runA.sl.H7_w10 c i arg1 harg1 arg2 harg2 arg3 harg3 arg4 harg4 arg5 harg5 arg6 harg6 arg7 harg7 arg8 harg8 arg9 harg9 arg10 harg10 arg11 harg11 hc0 x0 x1 x2 x3 x4 x5 f7 f8 fs0)
        (scalesV (blockH x2 x3 x4 x5 (xcF x0 x1) (xsF x0 x1) 256 256)) (IVec.on (maskV (BitVec.ofNat 32 (i 0).val) (BitVec.ofNat 32 2) (BitVec.ofNat 32 0))) := by
      rw [← b_256_256]; rfl
    have w_12 : runA.sl.H7_w12 c i arg1 harg1 arg2 harg2 arg3 harg3 arg4 harg4 arg5 harg5 arg6 harg6 arg7 harg7 arg8 harg8 arg9 harg9 arg10 harg10 arg11 harg11 hc0 x0 x1 x2 x3 x4 x5 f7 f8 fs0 = View.write (Elt F) (arg8.access (Rect.unit (s := S1024x80) ![256, 0] S256x80.size inb_S1024x80_S256x80_256_0)) (runA.sl.H7_w11 c i arg1 harg1 arg2 harg2 arg3 harg3 arg4 harg4 arg5 harg5 arg6 harg6 arg7 harg7 arg8 harg8 arg9 harg9 arg10 harg10 arg11 harg11 hc0 x0 x1 x2 x3 x4 x5 f7 f8 fs0)
        (scalesV (blockH x2 x3 x4 x5 (xcF x0 x1) (xsF x0 x1) 256 384)) (IVec.on (maskV (BitVec.ofNat 32 (i 0).val) (BitVec.ofNat 32 2) (BitVec.ofNat 32 1))) := by
      rw [← b_256_384]; rfl
    have w_13 : runA.sl.H7_w13 c i arg1 harg1 arg2 harg2 arg3 harg3 arg4 harg4 arg5 harg5 arg6 harg6 arg7 harg7 arg8 harg8 arg9 harg9 arg10 harg10 arg11 harg11 hc0 x0 x1 x2 x3 x4 x5 f7 f8 fs0 = View.write (Elt F) (arg8.access (Rect.unit (s := S1024x80) ![512, 0] S256x80.size inb_S1024x80_S256x80_512_0)) (runA.sl.H7_w12 c i arg1 harg1 arg2 harg2 arg3 harg3 arg4 harg4 arg5 harg5 arg6 harg6 arg7 harg7 arg8 harg8 arg9 harg9 arg10 harg10 arg11 harg11 hc0 x0 x1 x2 x3 x4 x5 f7 f8 fs0)
        (scalesV (blockH x2 x3 x4 x5 (xcF x0 x1) (xsF x0 x1) 512 256)) (IVec.on (maskV (BitVec.ofNat 32 (i 0).val) (BitVec.ofNat 32 2) (BitVec.ofNat 32 0))) := by
      rw [← b_512_256]; rfl
    have w_14 : runA.sl.H7_w14 c i arg1 harg1 arg2 harg2 arg3 harg3 arg4 harg4 arg5 harg5 arg6 harg6 arg7 harg7 arg8 harg8 arg9 harg9 arg10 harg10 arg11 harg11 hc0 x0 x1 x2 x3 x4 x5 f7 f8 fs0 = View.write (Elt F) (arg8.access (Rect.unit (s := S1024x80) ![512, 0] S256x80.size inb_S1024x80_S256x80_512_0)) (runA.sl.H7_w13 c i arg1 harg1 arg2 harg2 arg3 harg3 arg4 harg4 arg5 harg5 arg6 harg6 arg7 harg7 arg8 harg8 arg9 harg9 arg10 harg10 arg11 harg11 hc0 x0 x1 x2 x3 x4 x5 f7 f8 fs0)
        (scalesV (blockH x2 x3 x4 x5 (xcF x0 x1) (xsF x0 x1) 512 384)) (IVec.on (maskV (BitVec.ofNat 32 (i 0).val) (BitVec.ofNat 32 2) (BitVec.ofNat 32 1))) := by
      rw [← b_512_384]; rfl
    have w_15 : runA.sl.H7_w15 c i arg1 harg1 arg2 harg2 arg3 harg3 arg4 harg4 arg5 harg5 arg6 harg6 arg7 harg7 arg8 harg8 arg9 harg9 arg10 harg10 arg11 harg11 hc0 x0 x1 x2 x3 x4 x5 f7 f8 fs0 = View.write (Elt F) (arg8.access (Rect.unit (s := S1024x80) ![768, 0] S256x80.size inb_S1024x80_S256x80_768_0)) (runA.sl.H7_w14 c i arg1 harg1 arg2 harg2 arg3 harg3 arg4 harg4 arg5 harg5 arg6 harg6 arg7 harg7 arg8 harg8 arg9 harg9 arg10 harg10 arg11 harg11 hc0 x0 x1 x2 x3 x4 x5 f7 f8 fs0)
        (scalesV (blockH x2 x3 x4 x5 (xcF x0 x1) (xsF x0 x1) 768 256)) (IVec.on (maskV (BitVec.ofNat 32 (i 0).val) (BitVec.ofNat 32 2) (BitVec.ofNat 32 0))) := by
      rw [← b_768_256]; rfl
    have w_16 : runA.sl.H7_w16 c i arg1 harg1 arg2 harg2 arg3 harg3 arg4 harg4 arg5 harg5 arg6 harg6 arg7 harg7 arg8 harg8 arg9 harg9 arg10 harg10 arg11 harg11 hc0 x0 x1 x2 x3 x4 x5 f7 f8 fs0 = View.write (Elt F) (arg8.access (Rect.unit (s := S1024x80) ![768, 0] S256x80.size inb_S1024x80_S256x80_768_0)) (runA.sl.H7_w15 c i arg1 harg1 arg2 harg2 arg3 harg3 arg4 harg4 arg5 harg5 arg6 harg6 arg7 harg7 arg8 harg8 arg9 harg9 arg10 harg10 arg11 harg11 hc0 x0 x1 x2 x3 x4 x5 f7 f8 fs0)
        (scalesV (blockH x2 x3 x4 x5 (xcF x0 x1) (xsF x0 x1) 768 384)) (IVec.on (maskV (BitVec.ofNat 32 (i 0).val) (BitVec.ofNat 32 2) (BitVec.ofNat 32 1))) := by
      rw [← b_768_384]; rfl
    have hs : View.read (Elt F) arg8.view (runA.sl.H7_w16 c i arg1 harg1 arg2 harg2 arg3 harg3 arg4 harg4 arg5 harg5 arg6 harg6 arg7 harg7 arg8 harg8 arg9 harg9 arg10 harg10 arg11 harg11 hc0 x0 x1 x2 x3 x4 x5 f7 f8 fs0) = hsB t x2 x3 x4 x5 (xcF x0 x1) (xsF x0 x1) y7 := by
      funext y
      rw [w_16, read_mask arg8 768 _ _ _ t 2 1 ht (by decide) (by decide) (by decide) _ (by rw [hi]) _ rfl]
      rw [w_15, read_mask arg8 768 _ _ _ t 2 0 ht (by decide) (by decide) (by decide) _ (by rw [hi]) _ rfl]
      rw [w_14, read_mask arg8 512 _ _ _ t 2 1 ht (by decide) (by decide) (by decide) _ (by rw [hi]) _ rfl]
      rw [w_13, read_mask arg8 512 _ _ _ t 2 0 ht (by decide) (by decide) (by decide) _ (by rw [hi]) _ rfl]
      rw [w_12, read_mask arg8 256 _ _ _ t 2 1 ht (by decide) (by decide) (by decide) _ (by rw [hi]) _ rfl]
      rw [w_11, read_mask arg8 256 _ _ _ t 2 0 ht (by decide) (by decide) (by decide) _ (by rw [hi]) _ rfl]
      rw [w_10, read_mask arg8 0 _ _ _ t 2 1 ht (by decide) (by decide) (by decide) _ (by rw [hi]) _ rfl]
      rw [w_9, read_mask arg8 0 _ _ _ t 2 0 ht (by decide) (by decide) (by decide) _ (by rw [hi]) _ rfl]
      rw [w_8, read_mask arg8 768 _ _ _ t 0 1 ht (by decide) (by decide) (by decide) _ (by rw [hi]) _ rfl]
      rw [w_7, read_mask arg8 768 _ _ _ t 0 0 ht (by decide) (by decide) (by decide) _ (by rw [hi]) _ rfl]
      rw [w_6, read_mask arg8 512 _ _ _ t 0 1 ht (by decide) (by decide) (by decide) _ (by rw [hi]) _ rfl]
      rw [w_5, read_mask arg8 512 _ _ _ t 0 0 ht (by decide) (by decide) (by decide) _ (by rw [hi]) _ rfl]
      rw [w_4, read_mask arg8 256 _ _ _ t 0 1 ht (by decide) (by decide) (by decide) _ (by rw [hi]) _ rfl]
      rw [w_3, read_mask arg8 256 _ _ _ t 0 0 ht (by decide) (by decide) (by decide) _ (by rw [hi]) _ rfl]
      rw [w_2, read_mask arg8 0 _ _ _ t 0 1 ht (by decide) (by decide) (by decide) _ (by rw [hi]) _ rfl]
      rw [w_1, read_mask arg8 0 _ _ _ t 0 0 ht (by decide) (by decide) (by decide) _ (by rw [hi]) _ rfl]
      rw [hf7]
      exact hs_ladder t x2 x3 x4 x5 (xcF x0 x1) (xsF x0 x1) y7 y
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr
      rotate_left
      · iexact H6
      · ipureintro
        funext y
        refine View.read_writes_apply_of_pieces _ _ (hcB x2 x3 x4 x5 (xcF x0 x1) (xsF x0 x1)) _ ?_ y ?_
        rotate_left
        · exact View.cover_of_tiled _ ![256, 128] rfl y
        simp only [List.forall_mem_cons, List.not_mem_nil, IsEmpty.forall_iff, implies_true, _root_.and_true]
        refine ⟨?_, ?_, ?_, ?_, ?_, ?_, ?_, ?_, ?_, ?_, ?_, ?_, ?_, ?_, ?_, ?_⟩
        · exact hcB_emb x2 x3 x4 x5 (xcF x0 x1) (xsF x0 x1) 768 384 _ (by decide) (by decide) _ (by rw [← b_768_384]; rfl)
        · exact hcB_emb x2 x3 x4 x5 (xcF x0 x1) (xsF x0 x1) 768 256 _ (by decide) (by decide) _ (by rw [← b_768_256]; rfl)
        · exact hcB_emb x2 x3 x4 x5 (xcF x0 x1) (xsF x0 x1) 512 384 _ (by decide) (by decide) _ (by rw [← b_512_384]; rfl)
        · exact hcB_emb x2 x3 x4 x5 (xcF x0 x1) (xsF x0 x1) 512 256 _ (by decide) (by decide) _ (by rw [← b_512_256]; rfl)
        · exact hcB_emb x2 x3 x4 x5 (xcF x0 x1) (xsF x0 x1) 256 384 _ (by decide) (by decide) _ (by rw [← b_256_384]; rfl)
        · exact hcB_emb x2 x3 x4 x5 (xcF x0 x1) (xsF x0 x1) 256 256 _ (by decide) (by decide) _ (by rw [← b_256_256]; rfl)
        · exact hcB_emb x2 x3 x4 x5 (xcF x0 x1) (xsF x0 x1) 0 384 _ (by decide) (by decide) _ (by rw [← b_0_384]; rfl)
        · exact hcB_emb x2 x3 x4 x5 (xcF x0 x1) (xsF x0 x1) 0 256 _ (by decide) (by decide) _ (by rw [← b_0_256]; rfl)
        · exact hcB_emb x2 x3 x4 x5 (xcF x0 x1) (xsF x0 x1) 768 128 _ (by decide) (by decide) _ (by rw [← b_768_128]; rfl)
        · exact hcB_emb x2 x3 x4 x5 (xcF x0 x1) (xsF x0 x1) 768 0 _ (by decide) (by decide) _ (by rw [← b_768_0]; rfl)
        · exact hcB_emb x2 x3 x4 x5 (xcF x0 x1) (xsF x0 x1) 512 128 _ (by decide) (by decide) _ (by rw [← b_512_128]; rfl)
        · exact hcB_emb x2 x3 x4 x5 (xcF x0 x1) (xsF x0 x1) 512 0 _ (by decide) (by decide) _ (by rw [← b_512_0]; rfl)
        · exact hcB_emb x2 x3 x4 x5 (xcF x0 x1) (xsF x0 x1) 256 128 _ (by decide) (by decide) _ (by rw [← b_256_128]; rfl)
        · exact hcB_emb x2 x3 x4 x5 (xcF x0 x1) (xsF x0 x1) 256 0 _ (by decide) (by decide) _ (by rw [← b_256_0]; rfl)
        · exact hcB_emb x2 x3 x4 x5 (xcF x0 x1) (xsF x0 x1) 0 128 _ (by decide) (by decide) _ (by rw [← b_0_128]; rfl)
        · exact hcB_emb x2 x3 x4 x5 (xcF x0 x1) (xsF x0 x1) 0 0 _ (by decide) (by decide) _ (by rw [← b_0_0]; rfl)
    isplitl [H7]
    · iexists _; isplitr; · ipureintro; exact hs
      iexact H7
    isplitl [H8]
    · iexists _; isplitr; · ipureintro; exact hf8
      iexact H8
    isplitl [H9]
    · iexists _; isplitr; · ipureintro; exact hf9
      iexact H9
    iexists _; isplitr; · ipureintro; exact hfs0
    iexact HS0

end Cert.KernelIdeal.Hand

end
-- ==== Proof.RunB.lean ====
module

public import proofs.«01_k».proof.Proof.Gen.KernelIdeal.Frame
public import proofs.«01_k».proof.Proof.Gen.KernelIdeal.Loops
public import proofs.«01_k».proof.Proof.Setup

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F] [Named F]

set_option maxHeartbeats 4000000 in
theorem runB (c : Dev nD) (i : grid0.Coords) (arg1 : Memref sig .tc .vmem S1024x2560 .bf16) (harg1 : arg1.IsWhole) (arg2 : Memref sig .tc .vmem S1x2560 .f32) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole) (arg11 : Memref sig .tc .vmem S1024x128 .f32) (harg11 : arg11.IsWhole) (hc0 : ¬ cond0_0 i) (t : ℕ) (ht : t < 20) (hi : (i 0).val = t)
    (x0 : Vec F S1024x2560 .bf16) (x1 : Vec F S1x2560 .f32) (x2 : Vec F S2560x512 .fp8e4m3) (x3 : Vec F S2560x512 .fp8e4m3) (x4 : Vec F S1x512 .f32) (x5 : Vec F S1x512 .f32) (y7 : Vec F S1024x80 .f32) (y8 : Vec F S1024x2560 .fp8e4m3) (y9 : Vec F S1024x1 .f32) (ys : Vec F S1024x128 .f32) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare y7 ∗ owns (c : Thread nD τ) arg9 fullShare y8 ∗ owns (c : Thread nD τ) arg10 fullShare y9 ∗ owns (c : Thread nD τ) arg11 fullShare ys
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hcB x2 x3 x4 x5 y8 ys) ∗ owns (c : Thread nD τ) arg8 fullShare (hsB t x2 x3 x4 x5 y8 ys y7) ∗ owns (c : Thread nD τ) arg9 fullShare y8 ∗ owns (c : Thread nD τ) arg10 fullShare y9 ∗ owns (c : Thread nD τ) arg11 fullShare ys) -∗ K ⟨⟩))
          ⊢ wp frame (wpE (defs₀ (F := F)) Variants.none c none) E (cc0_rmsnorm_geglu_fp8 i arg1 harg1 arg2 harg2 arg3 harg3 arg4 harg4 arg5 harg5 arg6 harg6 arg7 harg7 arg8 harg8 arg9 harg9 arg10 harg10 arg11 harg11) K := by
    intro E K
    simp only [cc0_rmsnorm_geglu_fp8_eq_skeleton]; unfold cc0_rmsnorm_geglu_fp8_skel
    simp only [k0_part41_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg11.eq_unread hfs0
    sl_exec (disch := first | sl_exact hc0)
    have b_0_0 := loads_left hf8 hf2 hf3 hf4 hf5 hfs0 0 0 (by decide) inb_S1024x2560_S256x2560_0_0 inb_S2560x512_S2560x256_0_0 inb_S1024x128_S256x128_0_0 inb_S1x512_S1x128_0_0
    have b_0_128 := loads_right hf8 hf2 hf3 hf4 hf5 hfs0 0 0 128 (by decide) rfl inb_S1024x2560_S256x2560_0_0 inb_S2560x512_S2560x256_0_0 inb_S1024x128_S256x128_0_0 inb_S1x512_S1x128_0_128
    have b_256_0 := loads_left hf8 hf2 hf3 hf4 hf5 hfs0 256 0 (by decide) inb_S1024x2560_S256x2560_256_0 inb_S2560x512_S2560x256_0_0 inb_S1024x128_S256x128_256_0 inb_S1x512_S1x128_0_0
    have b_256_128 := loads_right hf8 hf2 hf3 hf4 hf5 hfs0 256 0 128 (by decide) rfl inb_S1024x2560_S256x2560_256_0 inb_S2560x512_S2560x256_0_0 inb_S1024x128_S256x128_256_0 inb_S1x512_S1x128_0_128
    have b_512_0 := loads_left hf8 hf2 hf3 hf4 hf5 hfs0 512 0 (by decide) inb_S1024x2560_S256x2560_512_0 inb_S2560x512_S2560x256_0_0 inb_S1024x128_S256x128_512_0 inb_S1x512_S1x128_0_0
    have b_512_128 := loads_right hf8 hf2 hf3 hf4 hf5 hfs0 512 0 128 (by decide) rfl inb_S1024x2560_S256x2560_512_0 inb_S2560x512_S2560x256_0_0 inb_S1024x128_S256x128_512_0 inb_S1x512_S1x128_0_128
    have b_768_0 := loads_left hf8 hf2 hf3 hf4 hf5 hfs0 768 0 (by decide) inb_S1024x2560_S256x2560_768_0 inb_S2560x512_S2560x256_0_0 inb_S1024x128_S256x128_768_0 inb_S1x512_S1x128_0_0
    have b_768_128 := loads_right hf8 hf2 hf3 hf4 hf5 hfs0 768 0 128 (by decide) rfl inb_S1024x2560_S256x2560_768_0 inb_S2560x512_S2560x256_0_0 inb_S1024x128_S256x128_768_0 inb_S1x512_S1x128_0_128
    have b_0_256 := loads_left hf8 hf2 hf3 hf4 hf5 hfs0 0 256 (by decide) inb_S1024x2560_S256x2560_0_0 inb_S2560x512_S2560x256_0_256 inb_S1024x128_S256x128_0_0 inb_S1x512_S1x128_0_256
    have b_0_384 := loads_right hf8 hf2 hf3 hf4 hf5 hfs0 0 256 384 (by decide) rfl inb_S1024x2560_S256x2560_0_0 inb_S2560x512_S2560x256_0_256 inb_S1024x128_S256x128_0_0 inb_S1x512_S1x128_0_384
    have b_256_256 := loads_left hf8 hf2 hf3 hf4 hf5 hfs0 256 256 (by decide) inb_S1024x2560_S256x2560_256_0 inb_S2560x512_S2560x256_0_256 inb_S1024x128_S256x128_256_0 inb_S1x512_S1x128_0_256
    have b_256_384 := loads_right hf8 hf2 hf3 hf4 hf5 hfs0 256 256 384 (by decide) rfl inb_S1024x2560_S256x2560_256_0 inb_S2560x512_S2560x256_0_256 inb_S1024x128_S256x128_256_0 inb_S1x512_S1x128_0_384
    have b_512_256 := loads_left hf8 hf2 hf3 hf4 hf5 hfs0 512 256 (by decide) inb_S1024x2560_S256x2560_512_0 inb_S2560x512_S2560x256_0_256 inb_S1024x128_S256x128_512_0 inb_S1x512_S1x128_0_256
    have b_512_384 := loads_right hf8 hf2 hf3 hf4 hf5 hfs0 512 256 384 (by decide) rfl inb_S1024x2560_S256x2560_512_0 inb_S2560x512_S2560x256_0_256 inb_S1024x128_S256x128_512_0 inb_S1x512_S1x128_0_384
    have b_768_256 := loads_left hf8 hf2 hf3 hf4 hf5 hfs0 768 256 (by decide) inb_S1024x2560_S256x2560_768_0 inb_S2560x512_S2560x256_0_256 inb_S1024x128_S256x128_768_0 inb_S1x512_S1x128_0_256
    have b_768_384 := loads_right hf8 hf2 hf3 hf4 hf5 hfs0 768 256 384 (by decide) rfl inb_S1024x2560_S256x2560_768_0 inb_S2560x512_S2560x256_0_256 inb_S1024x128_S256x128_768_0 inb_S1x512_S1x128_0_384
    have w_1 : runB.sl.H7_w1 c i arg3 harg3 arg4 harg4 arg5 harg5 arg6 harg6 arg8 arg9 harg9 arg11 harg11 x2 x3 x4 x5 y8 ys f7 = View.write (Elt F) (arg8.access (Rect.unit (s := S1024x80) ![0, 0] S256x80.size inb_S1024x80_S256x80_0_0)) f7
        (scalesV (blockH x2 x3 x4 x5 y8 ys 0 0)) (IVec.on (maskV (BitVec.ofNat 32 (i 0).val) (BitVec.ofNat 32 0) (BitVec.ofNat 32 0))) := by
      rw [← b_0_0]; rfl
    have w_2 : runB.sl.H7_w2 c i arg3 harg3 arg4 harg4 arg5 harg5 arg6 harg6 arg8 arg9 harg9 arg11 harg11 x2 x3 x4 x5 y8 ys f7 = View.write (Elt F) (arg8.access (Rect.unit (s := S1024x80) ![0, 0] S256x80.size inb_S1024x80_S256x80_0_0)) (runB.sl.H7_w1 c i arg3 harg3 arg4 harg4 arg5 harg5 arg6 harg6 arg8 arg9 harg9 arg11 harg11 x2 x3 x4 x5 y8 ys f7)
        (scalesV (blockH x2 x3 x4 x5 y8 ys 0 128)) (IVec.on (maskV (BitVec.ofNat 32 (i 0).val) (BitVec.ofNat 32 0) (BitVec.ofNat 32 1))) := by
      rw [← b_0_128]; rfl
    have w_3 : runB.sl.H7_w3 c i arg3 harg3 arg4 harg4 arg5 harg5 arg6 harg6 arg8 arg9 harg9 arg11 harg11 x2 x3 x4 x5 y8 ys f7 = View.write (Elt F) (arg8.access (Rect.unit (s := S1024x80) ![256, 0] S256x80.size inb_S1024x80_S256x80_256_0)) (runB.sl.H7_w2 c i arg3 harg3 arg4 harg4 arg5 harg5 arg6 harg6 arg8 arg9 harg9 arg11 harg11 x2 x3 x4 x5 y8 ys f7)
        (scalesV (blockH x2 x3 x4 x5 y8 ys 256 0)) (IVec.on (maskV (BitVec.ofNat 32 (i 0).val) (BitVec.ofNat 32 0) (BitVec.ofNat 32 0))) := by
      rw [← b_256_0]; rfl
    have w_4 : runB.sl.H7_w4 c i arg3 harg3 arg4 harg4 arg5 harg5 arg6 harg6 arg8 arg9 harg9 arg11 harg11 x2 x3 x4 x5 y8 ys f7 = View.write (Elt F) (arg8.access (Rect.unit (s := S1024x80) ![256, 0] S256x80.size inb_S1024x80_S256x80_256_0)) (runB.sl.H7_w3 c i arg3 harg3 arg4 harg4 arg5 harg5 arg6 harg6 arg8 arg9 harg9 arg11 harg11 x2 x3 x4 x5 y8 ys f7)
        (scalesV (blockH x2 x3 x4 x5 y8 ys 256 128)) (IVec.on (maskV (BitVec.ofNat 32 (i 0).val) (BitVec.ofNat 32 0) (BitVec.ofNat 32 1))) := by
      rw [← b_256_128]; rfl
    have w_5 : runB.sl.H7_w5 c i arg3 harg3 arg4 harg4 arg5 harg5 arg6 harg6 arg8 arg9 harg9 arg11 harg11 x2 x3 x4 x5 y8 ys f7 = View.write (Elt F) (arg8.access (Rect.unit (s := S1024x80) ![512, 0] S256x80.size inb_S1024x80_S256x80_512_0)) (runB.sl.H7_w4 c i arg3 harg3 arg4 harg4 arg5 harg5 arg6 harg6 arg8 arg9 harg9 arg11 harg11 x2 x3 x4 x5 y8 ys f7)
        (scalesV (blockH x2 x3 x4 x5 y8 ys 512 0)) (IVec.on (maskV (BitVec.ofNat 32 (i 0).val) (BitVec.ofNat 32 0) (BitVec.ofNat 32 0))) := by
      rw [← b_512_0]; rfl
    have w_6 : runB.sl.H7_w6 c i arg3 harg3 arg4 harg4 arg5 harg5 arg6 harg6 arg8 arg9 harg9 arg11 harg11 x2 x3 x4 x5 y8 ys f7 = View.write (Elt F) (arg8.access (Rect.unit (s := S1024x80) ![512, 0] S256x80.size inb_S1024x80_S256x80_512_0)) (runB.sl.H7_w5 c i arg3 harg3 arg4 harg4 arg5 harg5 arg6 harg6 arg8 arg9 harg9 arg11 harg11 x2 x3 x4 x5 y8 ys f7)
        (scalesV (blockH x2 x3 x4 x5 y8 ys 512 128)) (IVec.on (maskV (BitVec.ofNat 32 (i 0).val) (BitVec.ofNat 32 0) (BitVec.ofNat 32 1))) := by
      rw [← b_512_128]; rfl
    have w_7 : runB.sl.H7_w7 c i arg3 harg3 arg4 harg4 arg5 harg5 arg6 harg6 arg8 arg9 harg9 arg11 harg11 x2 x3 x4 x5 y8 ys f7 = View.write (Elt F) (arg8.access (Rect.unit (s := S1024x80) ![768, 0] S256x80.size inb_S1024x80_S256x80_768_0)) (runB.sl.H7_w6 c i arg3 harg3 arg4 harg4 arg5 harg5 arg6 harg6 arg8 arg9 harg9 arg11 harg11 x2 x3 x4 x5 y8 ys f7)
        (scalesV (blockH x2 x3 x4 x5 y8 ys 768 0)) (IVec.on (maskV (BitVec.ofNat 32 (i 0).val) (BitVec.ofNat 32 0) (BitVec.ofNat 32 0))) := by
      rw [← b_768_0]; rfl
    have w_8 : runB.sl.H7_w8 c i arg3 harg3 arg4 harg4 arg5 harg5 arg6 harg6 arg8 arg9 harg9 arg11 harg11 x2 x3 x4 x5 y8 ys f7 = View.write (Elt F) (arg8.access (Rect.unit (s := S1024x80) ![768, 0] S256x80.size inb_S1024x80_S256x80_768_0)) (runB.sl.H7_w7 c i arg3 harg3 arg4 harg4 arg5 harg5 arg6 harg6 arg8 arg9 harg9 arg11 harg11 x2 x3 x4 x5 y8 ys f7)
        (scalesV (blockH x2 x3 x4 x5 y8 ys 768 128)) (IVec.on (maskV (BitVec.ofNat 32 (i 0).val) (BitVec.ofNat 32 0) (BitVec.ofNat 32 1))) := by
      rw [← b_768_128]; rfl
    have w_9 : runB.sl.H7_w9 c i arg3 harg3 arg4 harg4 arg5 harg5 arg6 harg6 arg8 arg9 harg9 arg11 harg11 x2 x3 x4 x5 y8 ys f7 = View.write (Elt F) (arg8.access (Rect.unit (s := S1024x80) ![0, 0] S256x80.size inb_S1024x80_S256x80_0_0)) (runB.sl.H7_w8 c i arg3 harg3 arg4 harg4 arg5 harg5 arg6 harg6 arg8 arg9 harg9 arg11 harg11 x2 x3 x4 x5 y8 ys f7)
        (scalesV (blockH x2 x3 x4 x5 y8 ys 0 256)) (IVec.on (maskV (BitVec.ofNat 32 (i 0).val) (BitVec.ofNat 32 2) (BitVec.ofNat 32 0))) := by
      rw [← b_0_256]; rfl
    have w_10 : runB.sl.H7_w10 c i arg3 harg3 arg4 harg4 arg5 harg5 arg6 harg6 arg8 arg9 harg9 arg11 harg11 x2 x3 x4 x5 y8 ys f7 = View.write (Elt F) (arg8.access (Rect.unit (s := S1024x80) ![0, 0] S256x80.size inb_S1024x80_S256x80_0_0)) (runB.sl.H7_w9 c i arg3 harg3 arg4 harg4 arg5 harg5 arg6 harg6 arg8 arg9 harg9 arg11 harg11 x2 x3 x4 x5 y8 ys f7)
        (scalesV (blockH x2 x3 x4 x5 y8 ys 0 384)) (IVec.on (maskV (BitVec.ofNat 32 (i 0).val) (BitVec.ofNat 32 2) (BitVec.ofNat 32 1))) := by
      rw [← b_0_384]; rfl
    have w_11 : runB.sl.H7_w11 c i arg3 harg3 arg4 harg4 arg5 harg5 arg6 harg6 arg8 arg9 harg9 arg11 harg11 x2 x3 x4 x5 y8 ys f7 = View.write (Elt F) (arg8.access (Rect.unit (s := S1024x80) ![256, 0] S256x80.size inb_S1024x80_S256x80_256_0)) (runB.sl.H7_w10 c i arg3 harg3 arg4 harg4 arg5 harg5 arg6 harg6 arg8 arg9 harg9 arg11 harg11 x2 x3 x4 x5 y8 ys f7)
        (scalesV (blockH x2 x3 x4 x5 y8 ys 256 256)) (IVec.on (maskV (BitVec.ofNat 32 (i 0).val) (BitVec.ofNat 32 2) (BitVec.ofNat 32 0))) := by
      rw [← b_256_256]; rfl
    have w_12 : runB.sl.H7_w12 c i arg3 harg3 arg4 harg4 arg5 harg5 arg6 harg6 arg8 arg9 harg9 arg11 harg11 x2 x3 x4 x5 y8 ys f7 = View.write (Elt F) (arg8.access (Rect.unit (s := S1024x80) ![256, 0] S256x80.size inb_S1024x80_S256x80_256_0)) (runB.sl.H7_w11 c i arg3 harg3 arg4 harg4 arg5 harg5 arg6 harg6 arg8 arg9 harg9 arg11 harg11 x2 x3 x4 x5 y8 ys f7)
        (scalesV (blockH x2 x3 x4 x5 y8 ys 256 384)) (IVec.on (maskV (BitVec.ofNat 32 (i 0).val) (BitVec.ofNat 32 2) (BitVec.ofNat 32 1))) := by
      rw [← b_256_384]; rfl
    have w_13 : runB.sl.H7_w13 c i arg3 harg3 arg4 harg4 arg5 harg5 arg6 harg6 arg8 arg9 harg9 arg11 harg11 x2 x3 x4 x5 y8 ys f7 = View.write (Elt F) (arg8.access (Rect.unit (s := S1024x80) ![512, 0] S256x80.size inb_S1024x80_S256x80_512_0)) (runB.sl.H7_w12 c i arg3 harg3 arg4 harg4 arg5 harg5 arg6 harg6 arg8 arg9 harg9 arg11 harg11 x2 x3 x4 x5 y8 ys f7)
        (scalesV (blockH x2 x3 x4 x5 y8 ys 512 256)) (IVec.on (maskV (BitVec.ofNat 32 (i 0).val) (BitVec.ofNat 32 2) (BitVec.ofNat 32 0))) := by
      rw [← b_512_256]; rfl
    have w_14 : runB.sl.H7_w14 c i arg3 harg3 arg4 harg4 arg5 harg5 arg6 harg6 arg8 arg9 harg9 arg11 harg11 x2 x3 x4 x5 y8 ys f7 = View.write (Elt F) (arg8.access (Rect.unit (s := S1024x80) ![512, 0] S256x80.size inb_S1024x80_S256x80_512_0)) (runB.sl.H7_w13 c i arg3 harg3 arg4 harg4 arg5 harg5 arg6 harg6 arg8 arg9 harg9 arg11 harg11 x2 x3 x4 x5 y8 ys f7)
        (scalesV (blockH x2 x3 x4 x5 y8 ys 512 384)) (IVec.on (maskV (BitVec.ofNat 32 (i 0).val) (BitVec.ofNat 32 2) (BitVec.ofNat 32 1))) := by
      rw [← b_512_384]; rfl
    have w_15 : runB.sl.H7_w15 c i arg3 harg3 arg4 harg4 arg5 harg5 arg6 harg6 arg8 arg9 harg9 arg11 harg11 x2 x3 x4 x5 y8 ys f7 = View.write (Elt F) (arg8.access (Rect.unit (s := S1024x80) ![768, 0] S256x80.size inb_S1024x80_S256x80_768_0)) (runB.sl.H7_w14 c i arg3 harg3 arg4 harg4 arg5 harg5 arg6 harg6 arg8 arg9 harg9 arg11 harg11 x2 x3 x4 x5 y8 ys f7)
        (scalesV (blockH x2 x3 x4 x5 y8 ys 768 256)) (IVec.on (maskV (BitVec.ofNat 32 (i 0).val) (BitVec.ofNat 32 2) (BitVec.ofNat 32 0))) := by
      rw [← b_768_256]; rfl
    have w_16 : runB.sl.H7_w16 c i arg3 harg3 arg4 harg4 arg5 harg5 arg6 harg6 arg8 arg9 harg9 arg11 harg11 x2 x3 x4 x5 y8 ys f7 = View.write (Elt F) (arg8.access (Rect.unit (s := S1024x80) ![768, 0] S256x80.size inb_S1024x80_S256x80_768_0)) (runB.sl.H7_w15 c i arg3 harg3 arg4 harg4 arg5 harg5 arg6 harg6 arg8 arg9 harg9 arg11 harg11 x2 x3 x4 x5 y8 ys f7)
        (scalesV (blockH x2 x3 x4 x5 y8 ys 768 384)) (IVec.on (maskV (BitVec.ofNat 32 (i 0).val) (BitVec.ofNat 32 2) (BitVec.ofNat 32 1))) := by
      rw [← b_768_384]; rfl
    have hs : View.read (Elt F) arg8.view (runB.sl.H7_w16 c i arg3 harg3 arg4 harg4 arg5 harg5 arg6 harg6 arg8 arg9 harg9 arg11 harg11 x2 x3 x4 x5 y8 ys f7) = hsB t x2 x3 x4 x5 y8 ys y7 := by
      funext y
      rw [w_16, read_mask arg8 768 _ _ _ t 2 1 ht (by decide) (by decide) (by decide) _ (by rw [hi]) _ rfl]
      rw [w_15, read_mask arg8 768 _ _ _ t 2 0 ht (by decide) (by decide) (by decide) _ (by rw [hi]) _ rfl]
      rw [w_14, read_mask arg8 512 _ _ _ t 2 1 ht (by decide) (by decide) (by decide) _ (by rw [hi]) _ rfl]
      rw [w_13, read_mask arg8 512 _ _ _ t 2 0 ht (by decide) (by decide) (by decide) _ (by rw [hi]) _ rfl]
      rw [w_12, read_mask arg8 256 _ _ _ t 2 1 ht (by decide) (by decide) (by decide) _ (by rw [hi]) _ rfl]
      rw [w_11, read_mask arg8 256 _ _ _ t 2 0 ht (by decide) (by decide) (by decide) _ (by rw [hi]) _ rfl]
      rw [w_10, read_mask arg8 0 _ _ _ t 2 1 ht (by decide) (by decide) (by decide) _ (by rw [hi]) _ rfl]
      rw [w_9, read_mask arg8 0 _ _ _ t 2 0 ht (by decide) (by decide) (by decide) _ (by rw [hi]) _ rfl]
      rw [w_8, read_mask arg8 768 _ _ _ t 0 1 ht (by decide) (by decide) (by decide) _ (by rw [hi]) _ rfl]
      rw [w_7, read_mask arg8 768 _ _ _ t 0 0 ht (by decide) (by decide) (by decide) _ (by rw [hi]) _ rfl]
      rw [w_6, read_mask arg8 512 _ _ _ t 0 1 ht (by decide) (by decide) (by decide) _ (by rw [hi]) _ rfl]
      rw [w_5, read_mask arg8 512 _ _ _ t 0 0 ht (by decide) (by decide) (by decide) _ (by rw [hi]) _ rfl]
      rw [w_4, read_mask arg8 256 _ _ _ t 0 1 ht (by decide) (by decide) (by decide) _ (by rw [hi]) _ rfl]
      rw [w_3, read_mask arg8 256 _ _ _ t 0 0 ht (by decide) (by decide) (by decide) _ (by rw [hi]) _ rfl]
      rw [w_2, read_mask arg8 0 _ _ _ t 0 1 ht (by decide) (by decide) (by decide) _ (by rw [hi]) _ rfl]
      rw [w_1, read_mask arg8 0 _ _ _ t 0 0 ht (by decide) (by decide) (by decide) _ (by rw [hi]) _ rfl]
      rw [hf7]
      exact hs_ladder t x2 x3 x4 x5 y8 ys y7 y
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr
      rotate_left
      · iexact H6
      · ipureintro
        funext y
        refine View.read_writes_apply_of_pieces _ _ (hcB x2 x3 x4 x5 y8 ys) _ ?_ y ?_
        rotate_left
        · exact View.cover_of_tiled _ ![256, 128] rfl y
        simp only [List.forall_mem_cons, List.not_mem_nil, IsEmpty.forall_iff, implies_true, _root_.and_true]
        refine ⟨?_, ?_, ?_, ?_, ?_, ?_, ?_, ?_, ?_, ?_, ?_, ?_, ?_, ?_, ?_, ?_⟩
        · exact hcB_emb x2 x3 x4 x5 y8 ys 768 384 _ (by decide) (by decide) _ (by rw [← b_768_384]; rfl)
        · exact hcB_emb x2 x3 x4 x5 y8 ys 768 256 _ (by decide) (by decide) _ (by rw [← b_768_256]; rfl)
        · exact hcB_emb x2 x3 x4 x5 y8 ys 512 384 _ (by decide) (by decide) _ (by rw [← b_512_384]; rfl)
        · exact hcB_emb x2 x3 x4 x5 y8 ys 512 256 _ (by decide) (by decide) _ (by rw [← b_512_256]; rfl)
        · exact hcB_emb x2 x3 x4 x5 y8 ys 256 384 _ (by decide) (by decide) _ (by rw [← b_256_384]; rfl)
        · exact hcB_emb x2 x3 x4 x5 y8 ys 256 256 _ (by decide) (by decide) _ (by rw [← b_256_256]; rfl)
        · exact hcB_emb x2 x3 x4 x5 y8 ys 0 384 _ (by decide) (by decide) _ (by rw [← b_0_384]; rfl)
        · exact hcB_emb x2 x3 x4 x5 y8 ys 0 256 _ (by decide) (by decide) _ (by rw [← b_0_256]; rfl)
        · exact hcB_emb x2 x3 x4 x5 y8 ys 768 128 _ (by decide) (by decide) _ (by rw [← b_768_128]; rfl)
        · exact hcB_emb x2 x3 x4 x5 y8 ys 768 0 _ (by decide) (by decide) _ (by rw [← b_768_0]; rfl)
        · exact hcB_emb x2 x3 x4 x5 y8 ys 512 128 _ (by decide) (by decide) _ (by rw [← b_512_128]; rfl)
        · exact hcB_emb x2 x3 x4 x5 y8 ys 512 0 _ (by decide) (by decide) _ (by rw [← b_512_0]; rfl)
        · exact hcB_emb x2 x3 x4 x5 y8 ys 256 128 _ (by decide) (by decide) _ (by rw [← b_256_128]; rfl)
        · exact hcB_emb x2 x3 x4 x5 y8 ys 256 0 _ (by decide) (by decide) _ (by rw [← b_256_0]; rfl)
        · exact hcB_emb x2 x3 x4 x5 y8 ys 0 128 _ (by decide) (by decide) _ (by rw [← b_0_128]; rfl)
        · exact hcB_emb x2 x3 x4 x5 y8 ys 0 0 _ (by decide) (by decide) _ (by rw [← b_0_0]; rfl)
    isplitl [H7]
    · iexists _; isplitr; · ipureintro; exact hs
      iexact H7
    isplitl [H8]
    · iexists _; isplitr; · ipureintro; exact hf8
      iexact H8
    isplitl [H9]
    · iexists _; isplitr; · ipureintro; exact hf9
      iexact H9
    iexists _; isplitr; · ipureintro; exact hfs0
    iexact HS0

end Cert.KernelIdeal.Hand

end
-- ==== Proof.Run.lean ====
module

public import proofs.«01_k».proof.Proof.Gen.KernelIdeal.Frame
public import proofs.«01_k».proof.Proof.Gen.KernelIdeal.Loops
public import proofs.«01_k».proof.Proof.RunA
public import proofs.«01_k».proof.Proof.RunB
public import Idealize.ShloMosaic.Lib.Pipeline.DatRel
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F] [Named F]

variable (m : (ℓ : Loc nD τ sig) → Buf (Elt F) ℓ) (ρ : Dev nD → PrngReg)

/-- The first grid point. -/
def P0 : Fin cfg0.N := ⟨0, by rw [show cfg0.N = 20 from N_0]; decide⟩

/-- The grid point of a group of four hidden blocks. -/
def pt (n : ℕ) : Fin cfg0.N := ⟨n % 20, by rw [show cfg0.N = 20 from N_0]; exact Nat.mod_lt _ (by decide)⟩

/-- The activation codes, from the arrays as the region finds them. -/
def XC (c : Dev nD) : Vec F S1024x2560 .fp8e4m3 := xcF (iblk m c 0 P0) (iblk m c 1 P0)
/-- The activation scales, one to a row. -/
def XO (c : Dev nD) : Vec F S1024x1 .f32 := xsoF (iblk m c 0 P0) (iblk m c 1 P0)
/-- The activation scales over the lanes of a row. -/
def XS (c : Dev nD) : Vec F S1024x128 .f32 := xsF (iblk m c 0 P0) (iblk m c 1 P0)
/-- The hidden codes of one point. -/
def HC (c : Dev nD) (t : Fin cfg0.N) : Vec F S1024x512 .fp8e4m3 :=
  hcB (iblk m c 2 t) (iblk m c 3 t) (iblk m c 4 t) (iblk m c 5 t) (XC m c) (XS m c)
/-- The hidden scales, all of them. -/
def HS (c : Dev nD) : Vec F S1024x80 .f32 := fun y =>
  scalesV (blockH (iblk m c 2 (pt ((y 1).val / 4))) (iblk m c 3 (pt ((y 1).val / 4))) (iblk m c 4 (pt ((y 1).val / 4)))
      (iblk m c 5 (pt ((y 1).val / 4))) (XC m c) (XS m c) ((y 0).val / 256 * 256) ((y 1).val % 4 * 128))
    (ix2 ⟨(y 0).val % 256, Nat.mod_lt _ (by decide)⟩ ⟨(y 1).val, (y 1).isLt⟩)

/-- The body's invariant: before the first point the scratch holds anything, after it the scales. -/
def Phi (c : Dev nD) (t : ℕ) : sProp (MT nD τ sig Unit (Elt F) ℕ (UR sig nD τ) ℕ) :=
  if t = 0 then Pipeline.ΦA spec0 c
  else iprop(owns (c : Thread nD τ) scM0_0 fullShare (XS m c) ∗ (∃ r, prngReg c r))

/-- The proof data: inputs at their blocks, results at their named contents, window 7 left to `Rl`. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => HC m c t
    | ⟨7, _⟩ => HS m c
    | ⟨8, _⟩ => XC m c
    | ⟨9, _⟩ => XO m c
  Φ t := Phi m c t.val
  q w := Pipeline.shareOf spec0 w
  owed _ := 0

theorem A_eq (c : Dev nD) (w : Fin cfg0.W) : (dats m c).A w = V m c (Pipeline.arrRef spec0 w) := by
  dsimp only [dats]

theorem after_0 (c : Dev nD) (t : Fin cfg0.N) : (dats m c).after 0 t = iblk m c 0 t := by dsimp only [dats]
theorem after_1 (c : Dev nD) (t : Fin cfg0.N) : (dats m c).after 1 t = iblk m c 1 t := by dsimp only [dats]
theorem after_2 (c : Dev nD) (t : Fin cfg0.N) : (dats m c).after 2 t = iblk m c 2 t := by dsimp only [dats]
theorem after_3 (c : Dev nD) (t : Fin cfg0.N) : (dats m c).after 3 t = iblk m c 3 t := by dsimp only [dats]
theorem after_4 (c : Dev nD) (t : Fin cfg0.N) : (dats m c).after 4 t = iblk m c 4 t := by dsimp only [dats]
theorem after_5 (c : Dev nD) (t : Fin cfg0.N) : (dats m c).after 5 t = iblk m c 5 t := by dsimp only [dats]
theorem after_6 (c : Dev nD) (t : Fin cfg0.N) : (dats m c).after 6 t = HC m c t := by dsimp only [dats]
theorem after_8 (c : Dev nD) (t : Fin cfg0.N) : (dats m c).after 8 t = XC m c := by dsimp only [dats]
theorem after_9 (c : Dev nD) (t : Fin cfg0.N) : (dats m c).after 9 t = XO m c := by dsimp only [dats]

theorem before_0 (c : Dev nD) (t : Fin cfg0.N) (d) : (dats m c).before 0 t d = iblk m c 0 t :=
  before0_0_of m (dats m c) (A_eq m c 0) (after_0 m c) t d
theorem before_1 (c : Dev nD) (t : Fin cfg0.N) (d) : (dats m c).before 1 t d = iblk m c 1 t :=
  before0_1_of m (dats m c) (A_eq m c 1) (after_1 m c) t d
theorem before_2 (c : Dev nD) (t : Fin cfg0.N) (d) : (dats m c).before 2 t d = iblk m c 2 t :=
  before0_2_of m (dats m c) (A_eq m c 2) (after_2 m c) t d
theorem before_3 (c : Dev nD) (t : Fin cfg0.N) (d) : (dats m c).before 3 t d = iblk m c 3 t :=
  before0_3_of m (dats m c) (A_eq m c 3) (after_3 m c) t d
theorem before_4 (c : Dev nD) (t : Fin cfg0.N) (d) : (dats m c).before 4 t d = iblk m c 4 t :=
  before0_4_of m (dats m c) (A_eq m c 4) (after_4 m c) t d
theorem before_5 (c : Dev nD) (t : Fin cfg0.N) (d) : (dats m c).before 5 t d = iblk m c 5 t :=
  before0_5_of m (dats m c) (A_eq m c 5) (after_5 m c) t d

/-- A result written back at the last point only is not written back before it. -/
theorem noflush {w : Fin cfg0.W} (h : ∀ t : Fin cfg0.N, (cfg0.win w).flush t = true ↔ t.val % 20 = 19) (t : Fin cfg0.N) (ht : t.val ≠ 0) :
    (cfg0.win w).flush ⟨t.val - 1, Nat.lt_of_le_of_lt (Nat.sub_le _ _) t.isLt⟩ = false := by
  have hN : t.val < 20 := lt_of_lt_of_eq t.isLt (show cfg0.N = 20 from N_0)
  rw [← Bool.not_eq_true, h]
  show ¬ (t.val - 1) % 20 = 19
  omega

/-- The two results stored at the first point only are idle after it, and there only. -/
theorem idle_89 (w : Fin cfg0.W) (hw : ∀ i, cfg0.idle w i = !(k0_cond1 i == 1#1)) (t : Fin cfg0.N) :
    cfg0.idle w (grid0.coords t) = true ↔ t.val ≠ 0 := by
  have hN : t.val < 20 := lt_of_lt_of_eq t.isLt (show cfg0.N = 20 from N_0)
  have h := hcond0_0 t
  unfold cond0_0 at h
  rw [hw, Bool.not_eq_true', beq_eq_false_iff_ne, Ne, h]
  omega

/-- Such a result, after the first point, still holds what that point left in it. -/
theorem before_89 (c : Dev nD) (w : Fin cfg0.W) (hw : ∀ i, cfg0.idle w i = !(k0_cond1 i == 1#1))
    (hfe : ∀ t, (cfg0.win w).fetch t = false) (hfl : ∀ t : Fin cfg0.N, (cfg0.win w).flush t = true ↔ t.val % 20 = 19)
    (X : (cfg0.win w).block.Idx → Elt F (cfg0.win w).elt) (hX : ∀ t, (dats m c).kept w t X = X) (hX' : ∀ t d, (dats m c).kept w t d = (dats m c).kept w t X)
    (d) : ∀ (n : ℕ) (t : Fin cfg0.N), t.val = n + 1 → (dats m c).before w t d = X
  | n, t, ht => by
    have h0 : t.val ≠ 0 := by omega
    rw [(dats m c).before_of_pos w t h0 (hfe t), if_neg (by rw [noflush hfl t h0]; exact Bool.false_ne_true)]
    unfold Dat.left
    have hi := idle_89 w hw ⟨t.val - 1, Nat.lt_of_le_of_lt (Nat.sub_le _ _) t.isLt⟩
    generalize hb : cfg0.idle w (cfg0.grid.coords ⟨t.val - 1, Nat.lt_of_le_of_lt (Nat.sub_le _ _) t.isLt⟩) = b
    rw [show cfg0.idle w (grid0.coords ⟨t.val - 1, Nat.lt_of_le_of_lt (Nat.sub_le _ _) t.isLt⟩) = b from hb] at hi
    cases b with
    | false => exact (hX' _ d).trans (hX _)
    | true =>
      have hn : t.val - 1 ≠ 0 := hi.mp rfl
      obtain ⟨k, rfl⟩ : ∃ k, n = k + 1 := ⟨n - 1, by omega⟩
      exact before_89 c w hw hfe hfl X hX hX' d k _ (by show t.val - 1 = k + 1; omega)

theorem before_8 (c : Dev nD) (t : Fin cfg0.N) (ht : t.val ≠ 0) (d) : (dats m c).before 8 t d = XC m c :=
  before_89 m c 8 (fun _ => rfl) (fun _ => rfl) flush0_8 (XC m c) (fun t => after_8 m c t) (fun _ _ => rfl) d (t.val - 1) t (by omega)
theorem before_9 (c : Dev nD) (t : Fin cfg0.N) (ht : t.val ≠ 0) (d) : (dats m c).before 9 t d = XO m c :=
  before_89 m c 9 (fun _ => rfl) (fun _ => rfl) flush0_9 (XO m c) (fun t => after_9 m c t) (fun _ _ => rfl) d (t.val - 1) t (by omega)

/-- The window held to a predicate: the hidden scales'. -/
def fgt : Fin 10 → Bool := fun w => w.val == 7

/-- After point `t` the lanes of the groups up to `t` hold their scales. -/
def HsUpto (c : Dev nD) (t : ℕ) (X : Vec F S1024x80 .f32) : Prop := ∀ y : S1024x80.Idx, (y 1).val / 4 ≤ t → X y = HS m c y

def Rl (c : Dev nD) (w : Fin cfg0.W) (t : Fin cfg0.N) : ((cfg0.win w).block.Idx → Elt F (cfg0.win w).elt) → Prop :=
  match w with
  | ⟨7, _⟩ => fun X => HsUpto m c t.val X
  | _ => fun _ => True

/-- The relational proof data. -/
abbrev rdat (c : Dev nD) : RDat τ (Elt F) Unit ℕ (UR sig nD τ) ℕ cfg0 c := (dats m c).toRRel fgt (Rl m c)

theorem finds_7 (c : Dev nD) (t : Fin cfg0.N) (ht : t.val ≠ 0) (Y : Vec F S1024x80 .f32) (h : (rdat m c).Finds 7 t Y) :
    HsUpto m c (t.val - 1) Y := by
  rcases ((rdat m c).finds_of_pos (w := 7) rfl ht Y).mp h with hf | hl
  · rw [noflush flush0_7 t ht] at hf; exact absurd hf Bool.false_ne_true
  · exact (dats m c).toRRel_leaves (fgt := fgt) (Rl := Rl m c) (w := 7) rfl hl

/-- One point's scales are added to those there. -/
theorem hs_step (c : Dev nD) (t : Fin cfg0.N) (Y : Vec F S1024x80 .f32) (h : t.val ≠ 0 → HsUpto m c (t.val - 1) Y) :
    HsUpto m c t.val (hsB t.val (iblk m c 2 t) (iblk m c 3 t) (iblk m c 4 t) (iblk m c 5 t) (XC m c) (XS m c) Y) := by
  intro y hy
  have hN : t.val < 20 := lt_of_lt_of_eq t.isLt (show cfg0.N = 20 from N_0)
  unfold hsB
  by_cases e : (y 1).val / 4 = t.val
  · rw [if_pos e]
    unfold HS
    have ep : pt ((y 1).val / 4) = t := Fin.ext (by show (y 1).val / 4 % 20 = t.val; omega)
    rw [ep]
  · rw [if_neg e]
    exact h (by omega) y (by omega)

/-- What the body is called with at a point, -/
def bodyPre (c : Dev nD) (t : Fin cfg0.N) : sProp (MT nD τ sig Unit (Elt F) ℕ (UR sig nD τ) ℕ) :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ d, owns (c : Thread nD τ) (ms0_4 t) fullShare ((dats m c).before 4 t d))
    ∗ (∃ d, owns (c : Thread nD τ) (ms0_5 t) fullShare ((dats m c).before 5 t d))
    ∗ (∃ d, owns (c : Thread nD τ) (ms0_6 t) fullShare ((dats m c).before 6 t d))
    ∗ (∃ Y, ⌜(rdat m c).Finds 7 t Y⌝ ∗ owns (c : Thread nD τ) (ms0_7 t) fullShare Y)
    ∗ (∃ d, owns (c : Thread nD τ) (ms0_8 t) fullShare ((dats m c).before 8 t d))
    ∗ (∃ d, owns (c : Thread nD τ) (ms0_9 t) fullShare ((dats m c).before 9 t d)))

/-- and what it returns. -/
def bodyPost (c : Dev nD) (t : Fin cfg0.N) : sProp (MT nD τ sig Unit (Elt F) ℕ (UR sig nD τ) ℕ) :=
  iprop((dats m c).Φ t.succ ∗ (dats m c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (HC m c t)
    ∗ (∃ X, ⌜HsUpto m c t.val X⌝ ∗ owns (c : Thread nD τ) (ms0_7 t) fullShare X)
    ∗ owns (c : Thread nD τ) (ms0_8 t) fullShare (XC m c)
    ∗ owns (c : Thread nD τ) (ms0_9 t) fullShare (XO m c))

theorem coords_val (t : Fin cfg0.N) : ((grid0.coords t) 0).val = t.val := by
  have ht : t.val < 20 := Nat.lt_of_lt_of_eq t.isLt N_0
  have e0 : (grid0.coords t 0).val = t.val / 1 % 20 := Pipeline.Grid.coords_val t 0 (by decide) rfl
  omega

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m c).owesAt () t.succ = (dats m c).owesAt () t.castSucc from rfl]
  rw [show (dats m c).Φ t.castSucc = Phi m c t.val from rfl, show (dats m c).Φ t.succ = Phi m c (t.val + 1) from rfl]
  have hN : t.val < 20 := lt_of_lt_of_eq t.isLt (show cfg0.N = 20 from N_0)
  rw [show Phi m c (t.val + 1) = iprop(owns (c : Thread nD τ) scM0_0 fullShare (XS m c) ∗ (∃ r, prngReg c r)) from if_neg (Nat.succ_ne_zero _)]
  by_cases h0 : t.val = 0
  · rw [show Phi m c t.val = Pipeline.ΦA spec0 c from if_pos h0, PhiA0_eq]
    have eP : t = P0 := Fin.ext h0
    have eXC : xcF (iblk m c 0 t) (iblk m c 1 t) = XC m c := by rw [eP]; rfl
    have eXO : xsoF (iblk m c 0 t) (iblk m c 1 t) = XO m c := by rw [eP]; rfl
    have eXS : xsF (iblk m c 0 t) (iblk m c 1 t) = XS m c := by rw [eP]; rfl
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%Y, -, H7⟩, ⟨%d8, H8⟩, ⟨%d9, H9⟩⟩
    iapply ((runA c (grid0.coords t) _ _ _ _ _ _ _ _ _ _ _ _ _ _ _ _ _ _ _ _ _ _ ((hcond0_0 t).mpr (by omega)) t.val hN (coords_val t) (iblk m c 0 t) (iblk m c 1 t) (iblk m c 2 t) (iblk m c 3 t) (iblk m c 4 t) (iblk m c 5 t) Y) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexists _; iexact H8
    isplitl [H9]; · iexists _; iexact H9
    isplitl [HS0]; · iexact HS0
    rw [eXC, eXO, eXS]
    iintro ⟨H0, H1, H2, H3, H4, H5, H6, H7, H8, H9, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists _; isplitr; rotate_left
      · iexact H7
      · ipureintro; exact hs_step m c t Y (fun h => absurd h0 h)
    isplitl [H8]; · iexact H8
    iexact H9
  · rw [show Phi m c t.val = iprop(owns (c : Thread nD τ) scM0_0 fullShare (XS m c) ∗ (∃ r, prngReg c r)) from if_neg h0]
    simp only [before_8 m c t h0, before_9 m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%Y, %hY, H7⟩, ⟨%d8, H8⟩, ⟨%d9, H9⟩⟩
    iapply ((runB c (grid0.coords t) _ _ _ _ _ _ _ _ _ _ _ _ _ _ _ _ _ _ _ _ _ _ (fun h => h0 (by have := (hcond0_0 t).mp h; omega)) t.val hN (coords_val t) (iblk m c 0 t) (iblk m c 1 t) (iblk m c 2 t) (iblk m c 3 t) (iblk m c 4 t) (iblk m c 5 t) Y (XC m c) (XO m c) (XS m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexact H9
    isplitl [HS0]; · iexact HS0
    iintro ⟨H0, H1, H2, H3, H4, H5, H6, H7, H8, H9, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists _; isplitr; rotate_left
      · iexact H7
      · ipureintro; exact hs_step m c t Y (fun h => finds_7 m c t h Y hY)
    isplitl [H8]; · iexact H8
    iexact H9

theorem defs₀_row (t : Fin cfg0.N) :
    defs₀ (F := F) .tc cfg0.body (cfg0.bodyArgs t (cfg0.slots t)) = bodyAt0 t := by
  unfold defs₀; rw [Defs.onTc_tc]

/-- A named window's contents after the body are what the obligation asks of it. -/
theorem live_leaves (c : Dev nD) (w : Fin cfg0.W) (t : Fin cfg0.N) (X : (cfg0.win w).block.Idx → Elt F (cfg0.win w).elt)
    (hb : cfg0.idle w (grid0.coords t) = true → (dats m c).before w t X = X)
    (hl : cfg0.loose w = false) (hX : (dats m c).after w t = X) :
    (owns (c : Thread nD τ) ((cfg0.win w).stage (cfg0.slots t w)) fullShare X : sProp (MT nD τ sig Unit (Elt F) ℕ (UR sig nD τ) ℕ)) ⊢ (dats m c).leaves w t := by
  unfold Dat.leaves
  generalize hi : cfg0.idle w (cfg0.grid.coords t) = b
  rw [hl]
  cases b with
  | false => dsimp only; rw [hX]
  | true =>
    cases (cfg0.win w).flush t with
    | true => dsimp only; rw [hX]
    | false =>
      dsimp only
      have e := hb hi
      iintro H; iexists X; rw [e]; iexact H

theorem leaves_8 (c : Dev nD) (t : Fin cfg0.N) :
    (owns (c : Thread nD τ) (ms0_8 t) fullShare (XC m c) : sProp (MT nD τ sig Unit (Elt F) ℕ (UR sig nD τ) ℕ)) ⊢ (dats m c).leaves 8 t :=
  live_leaves m c 8 t (XC m c) (fun h => before_8 m c t ((idle_89 8 (fun _ => rfl) t).mp h) (XC m c)) rfl (after_8 m c t)

theorem leaves_9 (c : Dev nD) (t : Fin cfg0.N) :
    (owns (c : Thread nD τ) (ms0_9 t) fullShare (XO m c) : sProp (MT nD τ sig Unit (Elt F) ℕ (UR sig nD τ) ℕ)) ⊢ (dats m c).leaves 9 t :=
  live_leaves m c 9 t (XO m c) (fun h => before_9 m c t ((idle_89 9 (fun _ => rfl) t).mp h) (XO m c)) rfl (after_9 m c t)

theorem rl_7 (c : Dev nD) (t : Fin cfg0.N) (X : Vec F S1024x80 .f32) (h : HsUpto m c t.val X) : Rl m c 7 t X := by
  dsimp only [Rl]; exact h

theorem scales_leaves (c : Dev nD) (t : Fin cfg0.N) :
    (iprop(∃ X, ⌜HsUpto m c t.val X⌝ ∗ owns (c : Thread nD τ) (ms0_7 t) fullShare X) : sProp (MT nD τ sig Unit (Elt F) ℕ (UR sig nD τ) ℕ))
      ⊢ iprop(∃ X, ⌜Rl m c 7 t X⌝ ∗ owns (c : Thread nD τ) (ms0_7 t) fullShare X) := by
  iintro ⟨%X, %hX, H⟩
  iexists X
  isplitr
  · ipureintro; exact rl_7 m c t X hX
  iexact H

theorem post_entails (c : Dev nD) (t : Fin cfg0.N) : bodyPost m c t ⊢
    iprop((dats m c).Φ t.succ ∗ (dats m c).owesAt () t.succ
      ∗ (dats m c).leaves 0 t ∗ (dats m c).leaves 1 t ∗ (dats m c).leaves 2 t ∗ (dats m c).leaves 3 t ∗ (dats m c).leaves 4 t
      ∗ (dats m c).leaves 5 t ∗ (dats m c).leaves 6 t
      ∗ (∃ X, ⌜Rl m c 7 t X⌝ ∗ owns (c : Thread nD τ) (ms0_7 t) fullShare X)
      ∗ (dats m c).leaves 8 t ∗ (dats m c).leaves 9 t) := by
  unfold bodyPost
  exact BIClass.sep_mono .rfl (BIClass.sep_mono .rfl (BIClass.sep_mono (live_leaves m c 0 t _ (fun h => absurd h Bool.false_ne_true) rfl (after_0 m c t))
    (BIClass.sep_mono (live_leaves m c 1 t _ (fun h => absurd h Bool.false_ne_true) rfl (after_1 m c t)) (BIClass.sep_mono (live_leaves m c 2 t _ (fun h => absurd h Bool.false_ne_true) rfl (after_2 m c t))
    (BIClass.sep_mono (live_leaves m c 3 t _ (fun h => absurd h Bool.false_ne_true) rfl (after_3 m c t)) (BIClass.sep_mono (live_leaves m c 4 t _ (fun h => absurd h Bool.false_ne_true) rfl (after_4 m c t))
    (BIClass.sep_mono (live_leaves m c 5 t _ (fun h => absurd h Bool.false_ne_true) rfl (after_5 m c t)) (BIClass.sep_mono (live_leaves m c 6 t _ (fun h => absurd h Bool.false_ne_true) rfl (after_6 m c t))
    (BIClass.sep_mono (scales_leaves m c t) (BIClass.sep_mono (leaves_8 m c t)
      (leaves_9 m c t)))))))))))

theorem body_obligation (c : Dev nD) : (rdat (F := F) m c).BodyObligation (defs₀ (F := F)) Variants.none () Set.univ :=
  Pipeline.BodyObligationRel.toRRel (dats m c) (fun t => by
    rw [bigSep_W0, bigSep_W0, defs₀_row]
    exact triple_restated ((sound_body m c t).trans (wp_mono _ _ _ fun _ => post_entails m c t)) rfl .rfl fun _ => .rfl)

theorem phi_last (c : Dev nD) : (rdat m c).Φ (Fin.last cfg0.N) ⊢ Pipeline.ΦA spec0 c := by
  rw [show (rdat m c).Φ (Fin.last cfg0.N) = Phi m c grid0.N from rfl, N_0,
    show Phi m c 20 = iprop(owns (c : Thread nD τ) scM0_0 fullShare (XS m c) ∗ (∃ r, prngReg c r)) from if_neg (by decide), PhiA0_eq]
  iintro ⟨H, Hg⟩
  isplitl [H]
  · iexists _; iexact H
  iexact Hg

set_option backward.isDefEq.respectTransparency.types false in
/-- The launch: the arrays as the proof data say, every counter at zero. -/
theorem run_main_quiescent : θ_run defs (onTc (τ := τ) (main (F := F))) (s₀ m ρ)
    (fun r => Pipeline.RDat.FramePost (cfgs 0) (fun c => rdat m c) (V m) r ∧ r.2.sem = fun _ => 0) :=
  Pipeline.RDat.θ_run_frame_track_shared (Q' := _) cfgs (0 : Fin 1) launch₀0 defs₀ Variants.none (fun c => rdat m c) m ρ main
    (hbody := fun c => body_obligation m c) (hq := fun _ _ _ => rfl)
    (howed := fun _ _ => rfl) (V := V m) (hmain := hmain m Variants.none) (hA := A_eq m)
    (hin := fun c => .rfl)
    (hout := fun c => phi_last m c)

end Cert.KernelIdeal.Hand

end
-- ==== Proof.Final.lean ====
/- The kernel's four result arrays after its run, and its arguments unchanged. -/
module

public import proofs.«01_k».proof.Proof.Run
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.Sem
open Idealize.ShloMosaic.Pipeline (Dat RDat Cfg Window)
open Cert.KernelIdeal Cert.KernelIdeal.Gen

variable {F : FTy → Type} [FloatOps F] [Named F]

variable (m : (ℓ : Loc nD τ sig) → Buf (Elt F) ℓ) (ρ : Dev nD → PrngReg)

/-- The whole array of hidden codes: column `C` is column `C % 512` of point `C / 512`'s block. -/
def HCw (c : Dev nD) : Vec F S1024x10240 .fp8e4m3 := fun i =>
  HC m c (pt ((i 1).val / 512)) (ix2 ⟨(i 0).val, (i 0).isLt⟩ ⟨(i 1).val % 512, Nat.mod_lt _ (by decide)⟩)

theorem e6 : ∀ t : Fin cfg0.N, win0_6.index t = ![0, t.val] := (by decide +kernel : ∀ t : Fin grid0.N, _)
theorem e7 : ∀ t : Fin cfg0.N, win0_7.index t = ![0, 0] := (by decide +kernel : ∀ t : Fin grid0.N, _)

theorem arr_6 (c : Dev nD) : (dats m c).arrAt 6 cfg0.N = HCw m c := by
  refine (dats m c).arrAt_eq_of_covers 6 _ (by decide +kernel) fun t hf y => ?_
  blk_simp
  rw [after_6]
  have hN : t.val < 20 := lt_of_lt_of_eq t.isLt (show cfg0.N = 20 from N_0)
  have hy0 : (y 0).val < 1024 := (y 0).isLt
  have hy1 : (y 1).val < 512 := (y 1).isLt
  have h0 : ((((cfg0.win 6).blk t).view.emb y) 0).val = (y 0).val := by blk_simp [e6]
  have h1 : ((((cfg0.win 6).blk t).view.emb y) 1).val = t.val * 512 + (y 1).val := by blk_simp [e6]
  unfold HCw
  have hp : pt ((((cfg0.win 6).blk t).view.emb y 1).val / 512) = t := by
    apply Fin.ext
    show ((((cfg0.win 6).blk t).view.emb y 1).val / 512) % 20 = t.val
    rw [h1]; omega
  rw [hp]
  refine congrArg (HC m c t) ?_
  funext a
  apply Fin.ext
  match a with
  | ⟨0, _⟩ => exact h0.symm
  | ⟨1, _⟩ => show (y 1).val = ((((cfg0.win 6).blk t).view.emb y) 1).val % 512; rw [h1]; omega

theorem arr_8 (c : Dev nD) : (dats m c).arrAt 8 cfg0.N = XC m c := by
  refine (dats m c).arrAt_eq_of_after_last 8 (pt 19) (by decide +kernel) _ fun j => ?_
  rw [after_8]
  rfl

theorem arr_9 (c : Dev nD) : (dats m c).arrAt 9 cfg0.N = XO m c := by
  refine (dats m c).arrAt_eq_of_after_last 9 (pt 19) (by decide +kernel) _ fun j => ?_
  rw [after_9]
  rfl

theorem exact_arr (c : Dev nD) (w : Fin cfg0.W) (h : fgt w = false) (G) (hG : (rdat m c).ArrAt w cfg0.N G) :
    G = (dats m c).arrAt w cfg0.N :=
  ((dats m c).toR_arrAt_iff w _ _).mp (((dats m c).toR.override_arrAt (by simp only [h]) _ _).mp hG)

theorem arr_7 (c : Dev nD) (G : Vec F S1024x80 .f32) (hG : (rdat m c).ArrAt 7 cfg0.N G) : G = HS m c := by
  have hN : cfg0.N = (pt 19).val + 1 := N_0
  rw [hN, RDat.ArrAt_succ, if_pos ((flush0_7 (pt 19)).mpr rfl)] at hG
  obtain ⟨G₀, X, _, hX, hw⟩ := hG
  have hX' : HsUpto m c 19 X := (dats m c).toRRel_leaves (show fgt 7 = true from rfl) hX
  have hXe : X = HS m c := funext fun y => hX' y (by have : (y 1).val < 80 := (y 1).isLt; omega)
  subst hXe
  rw [hw]
  funext i
  have hi : i = (((cfg0.win 7).blk (pt 19)).view.emb i) := by
    funext a
    apply Fin.ext
    match a with
    | ⟨0, _⟩ => blk_simp [e7]
    | ⟨1, _⟩ => blk_simp [e7]
  conv_lhs => rw [hi]
  rw [View.write_emb_of_mem _ _ (Finset.mem_univ _)]
  rfl

/-- The run, with its results named. -/
theorem run : θ_run defs (onTc (τ := τ) (main (F := F))) ⟨m, fun _ => 0, ρ⟩ (fun r => (∀ c : Dev nD,
      r.2.mem ((c.tc : Thread nD τ).loc main_v5_0) = HCw m c
      ∧ r.2.mem ((c.tc : Thread nD τ).loc main_v5_1) = HS m c
      ∧ r.2.mem ((c.tc : Thread nD τ).loc main_v5_2) = XC m c
      ∧ r.2.mem ((c.tc : Thread nD τ).loc main_v5_3) = XO m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(exact_arr m c 6 rfl _ ((h.1 c).1 6)).trans (arr_6 m c),
      arr_7 m c _ ((h.1 c).1 7),
      (exact_arr m c 8 rfl _ ((h.1 c).1 8)).trans (arr_8 m c),
      (exact_arr m c 9 rfl _ ((h.1 c).1 9)).trans (arr_9 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)
    (run_main_quiescent m ρ)

/-- The arguments unchanged and the counters zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h.1 c).2.2.2.2, h.2⟩) (run m ρ)

end Cert.KernelIdeal.Hand

end
-- ==== Proof.Quant.lean ====
/- The power-of-two quantiser on extended reals. The kernel finds the exponent field of `a` bit by bit and builds the
   scale and its reciprocal from fields; the reference takes the floor of the base-two logarithm. For a real `a` at
   least zero and below two to the 126th they are the same two powers. -/
module

public import Idealize.ShloMosaic.Lib.Pointwise

@[expose] public section

noncomputable section

namespace Cert.Value

open Idealize.ShloMosaic

/-- The single-precision pattern with exponent field `n` and no fraction. -/
abbrev fld (n : ℕ) : BitVec 32 := BitVec.ofNat 32 (8388608 * n)

/-- The number such a pattern denotes. -/
def Q (n : ℕ) : EReal := if n = 0 then 0 else if n < 255 then (((2 : ℝ) ^ ((n : ℤ) - 127) : ℝ) : EReal) else ⊤

theorem ofBits_fld (n : ℕ) (h : n ≤ 255) : Ideal.ofBits .f32 (fld n) = Q n := by
  have e1 : ((fld n).extractLsb' 31 1 == 1#1) = false := by
    rw [beq_eq_false_iff_ne]
    intro h2
    have := congrArg BitVec.toNat h2
    simp [BitVec.extractLsb'_toNat, Nat.shiftRight_eq_div_pow] at this
    omega
  have e2 : ((fld n).extractLsb' 23 8).toNat = n := by
    simp [BitVec.extractLsb'_toNat, Nat.shiftRight_eq_div_pow]
    try omega
  have e3 : ((fld n).extractLsb' 0 23).toNat = 0 := by
    simp [BitVec.extractLsb'_toNat, Nat.shiftRight_eq_div_pow]
    try omega
  simp only [Ideal.ofBits, Ideal.ieee]
  rw [e1, e2, e3]
  unfold Q
  rcases Nat.eq_zero_or_pos n with h0 | h0
  · subst h0; simp
  · by_cases h1 : n = 255
    · subst h1; simp
    · have h2 : n < 255 := by omega
      have h3 : n ≠ 0 := by omega
      simp [h1, h2, h3, -EReal.coe_mul]
      rw [show (8388608 : ℝ) = (2 : ℝ) ^ (23 : ℤ) by norm_num, ← zpow_add₀ (by norm_num : (2 : ℝ) ≠ 0)]
      congr 1
      ring

theorem fld_add (n w : ℕ) : fld n + fld w = fld (n + w) := by
  unfold fld
  rw [Nat.mul_add, BitVec.ofNat_add]

/-- One step of the search. -/
def stepS (w : BitVec 32) (a : EReal) (b : BitVec 32) : BitVec 32 :=
  if a < Ideal.ofBits .f32 (b + w) then b else b + w

/-- The exponent field found. -/
def fieldS (a : EReal) : BitVec 32 :=
  stepS 8388608#32 a (stepS 16777216#32 a (stepS 33554432#32 a (stepS 67108864#32 a (stepS 134217728#32 a
    (stepS 268435456#32 a (stepS 536870912#32 a (stepS 1073741824#32 a 0#32)))))))

/-- A step halves the interval that holds `a`. -/
theorem step_inv (a : EReal) (w : ℕ) (v : BitVec 32) (hv : v = fld w) (b : BitVec 32)
    (h : ∃ n, b = fld n ∧ n + 2 * w ≤ 256 ∧ Q n ≤ a ∧ a < Q (n + 2 * w)) (hw : 0 < w) :
    ∃ n, stepS v a b = fld n ∧ n + w ≤ 256 ∧ Q n ≤ a ∧ a < Q (n + w) := by
  obtain ⟨n, rfl, hn, h1, h2⟩ := h
  subst hv
  unfold stepS
  rw [fld_add, ofBits_fld _ (by omega)]
  by_cases hlt : a < Q (n + w)
  · exact ⟨n, by rw [if_pos hlt], by omega, h1, hlt⟩
  · exact ⟨n + w, by rw [if_neg hlt], by omega, not_lt.1 hlt, by rw [show n + w + w = n + 2 * w by ring]; exact h2⟩

theorem fieldS_spec (a : ℝ) (h0 : 0 ≤ a) : ∃ n, fieldS (a : EReal) = fld n ∧ Q n ≤ (a : EReal) ∧ (a : EReal) < Q (n + 1) := by
  have s0 : ∃ n, (0#32 : BitVec 32) = fld n ∧ n + 2 * 128 ≤ 256 ∧ Q n ≤ (a : EReal) ∧ (a : EReal) < Q (n + 2 * 128) :=
    ⟨0, rfl, by norm_num, by simpa [Q] using h0, by simpa [Q] using EReal.coe_lt_top a⟩
  have s1 := step_inv a 128 1073741824#32 rfl _ s0 (by norm_num)
  have s2 := step_inv a 64 536870912#32 rfl _ s1 (by norm_num)
  have s3 := step_inv a 32 268435456#32 rfl _ s2 (by norm_num)
  have s4 := step_inv a 16 134217728#32 rfl _ s3 (by norm_num)
  have s5 := step_inv a 8 67108864#32 rfl _ s4 (by norm_num)
  have s6 := step_inv a 4 33554432#32 rfl _ s5 (by norm_num)
  have s7 := step_inv a 2 16777216#32 rfl _ s6 (by norm_num)
  obtain ⟨n, h1, _, h2, h3⟩ := step_inv a 1 8388608#32 rfl _ s7 (by norm_num)
  exact ⟨n, h1, h2, h3⟩

/-- The field with zero replaced by 126. -/
def field126 (a : EReal) : BitVec 32 := if fieldS a = 0#32 then 1056964608#32 else fieldS a

/-- The scale built from the field. -/
def scaleS (a : EReal) : EReal := Ideal.ofBits .f32 (field126 a + 8388608#32)

/-- Its reciprocal built from the field. -/
def invS (a : EReal) : EReal := Ideal.ofBits .f32 (2122317824#32 - field126 a)

/-- The reference's exponent: one above the floor of the base-two logarithm, or zero when `a` is below the least
    normal number. -/
def expo (a : EReal) : EReal :=
  if a < Ideal.ofBits .f32 0x00800000#32 then 0
  else Ideal.liftRound Int.floor (Ideal.div (Ideal.log a) ((Real.log 2 : ℝ) : EReal)) + 1

theorem Q_lt_mono {m n : ℕ} (h : Q m < Q n) : m < n := by
  by_contra hc
  have hc : n ≤ m := not_lt.1 hc
  refine absurd h (not_lt.2 ?_)
  unfold Q
  rcases Nat.eq_zero_or_pos n with h0 | h0
  · subst h0
    rcases Nat.eq_zero_or_pos m with h1 | h1
    · subst h1; simp
    · have : m ≠ 0 := by omega
      simp only [this, if_true, if_false]
      split_ifs
      · exact EReal.coe_nonneg.2 (by positivity)
      · exact le_top
  · have h1 : n ≠ 0 := by omega
    have h2 : m ≠ 0 := by omega
    simp only [h1, h2, if_false]
    by_cases h3 : m < 255
    · have h4 : n < 255 := by omega
      simp only [h3, h4, if_true]
      exact EReal.coe_le_coe_iff.2 (zpow_le_zpow_right₀ (by norm_num) (by omega))
    · simp only [h3, if_false]
      exact le_top

theorem exp2_coe_int (k : ℤ) : Ideal.exp2 (((k : ℝ) : ℝ) : EReal) = (((2 : ℝ) ^ k : ℝ) : EReal) := by
  show ((Real.rpow 2 (k : ℝ) : ℝ) : EReal) = _
  rw [show Real.rpow 2 (k : ℝ) = (2 : ℝ) ^ (k : ℝ) from rfl, Real.rpow_intCast]

theorem c_127a : 1056964608#32 + 8388608#32 = fld 127 := by decide

theorem c_127b : 2122317824#32 - 1056964608#32 = fld 127 := by decide

theorem c_zero : fld 0 = 0#32 := by decide

theorem c_one : 8388608#32 = fld 1 := by decide

theorem c_min : 0x00800000#32 = fld 1 := by decide

theorem c_inv (n : ℕ) (h : n ≤ 253) : 2122317824#32 - fld n = fld (253 - n) := by
  have h1 : (2122317824#32 : BitVec 32) = fld 253 := by decide
  rw [h1, ← Nat.sub_add_cancel h, ← fld_add, Nat.sub_add_cancel h, BitVec.add_sub_cancel]

theorem fld_ne (n : ℕ) (h0 : 0 < n) (h1 : n < 256) : fld n ≠ 0#32 := by
  intro h
  have := congrArg BitVec.toNat h
  simp at this
  omega

theorem Q_127 : Q 127 = 1 := by
  unfold Q
  rw [if_neg (by norm_num), if_pos (by norm_num)]
  norm_num

/-- Below two to the 126th the two ways of making the scale agree, and so do the reciprocals. The exponent is an
    integer at most 126. -/
theorem quant_eq (a : ℝ) (h0 : 0 ≤ a) (h1 : a < (2 : ℝ) ^ (126 : ℤ)) :
    ∃ k : ℤ, expo (a : EReal) = ((k : ℝ) : EReal) ∧ scaleS a = (((2 : ℝ) ^ k : ℝ) : EReal)
      ∧ invS a = (((2 : ℝ) ^ (-k) : ℝ) : EReal) ∧ (k = 0 ∨ (2 : ℝ) ^ (k - 1) ≤ a) := by
  obtain ⟨n, hf, hn1, hn2⟩ := fieldS_spec a h0
  have hnt : n < 253 := by
    apply Q_lt_mono
    have hq : Q 253 = (((2 : ℝ) ^ (126 : ℤ) : ℝ) : EReal) := by
      unfold Q
      rw [if_neg (by norm_num), if_pos (by norm_num)]
      congr 2
    rw [hq]
    exact lt_of_le_of_lt hn1 (EReal.coe_lt_coe_iff.2 h1)
  have hmin : Ideal.ofBits .f32 0x00800000#32 = Q 1 := by rw [c_min]; exact ofBits_fld 1 (by norm_num)
  unfold scaleS invS field126 expo
  rw [hf, hmin]
  rcases Nat.eq_zero_or_pos n with hz | hz
  · subst hz
    refine ⟨0, ?_, ?_, ?_, Or.inl rfl⟩
    · rw [if_pos (by simpa using hn2)]; simp
    · rw [if_pos c_zero, c_127a, ofBits_fld 127 (by norm_num), Q_127]; simp
    · rw [if_pos c_zero, c_127b, ofBits_fld 127 (by norm_num), Q_127]; simp
  · have hq : Q n = (((2 : ℝ) ^ ((n : ℤ) - 127) : ℝ) : EReal) := by
      unfold Q; rw [if_neg (by omega), if_pos (by omega)]
    have hq' : Q (n + 1) = (((2 : ℝ) ^ ((n : ℤ) - 126) : ℝ) : EReal) := by
      unfold Q; rw [if_neg (by omega), if_pos (by omega)]
      congr 2; push_cast; ring
    rw [hq] at hn1
    rw [hq'] at hn2
    have r1 : (2 : ℝ) ^ ((n : ℤ) - 127) ≤ a := EReal.coe_le_coe_iff.1 hn1
    have r2 : a < (2 : ℝ) ^ ((n : ℤ) - 126) := EReal.coe_lt_coe_iff.1 hn2
    have hpos : 0 < a := lt_of_lt_of_le (by positivity) r1
    have hne : fld n ≠ 0#32 := fld_ne n hz (by omega)
    have hnot : ¬ ((a : EReal) < Q 1) := by
      refine not_lt.2 (le_trans ?_ hn1)
      have : Q 1 = (((2 : ℝ) ^ (-126 : ℤ) : ℝ) : EReal) := by simp [Q]
      rw [this]
      exact EReal.coe_le_coe_iff.2 (zpow_le_zpow_right₀ (by norm_num) (by omega))
    have hlog2 : 0 < Real.log 2 := Real.log_pos (by norm_num)
    have hfl : ⌊Real.log a * (Real.log 2)⁻¹⌋ = (n : ℤ) - 127 := by
      rw [← div_eq_mul_inv, Int.floor_eq_iff]
      constructor
      · rw [le_div_iff₀ hlog2]
        have := Real.log_le_log (by positivity) r1
        rw [Real.log_zpow] at this
        exact_mod_cast this
      · rw [div_lt_iff₀ hlog2]
        have := Real.log_lt_log hpos r2
        rw [Real.log_zpow] at this
        calc _ < _ := this
          _ = _ := by push_cast; ring
    refine ⟨(n : ℤ) - 126, ?_, ?_, ?_, Or.inr ?_⟩
    · rw [if_neg hnot]
      have hlg : Ideal.log (a : EReal) = ((Real.log a : ℝ) : EReal) := by
        show (if a ≤ 0 then (⊥ : EReal) else ((Real.log a : ℝ) : EReal)) = _
        rw [if_neg (not_le.2 hpos)]
      rw [hlg]
      unfold Ideal.div
      rw [if_neg (by simpa using hlog2.ne'), ← EReal.coe_inv, ← EReal.coe_mul]
      show ((⌊Real.log a * (Real.log 2)⁻¹⌋ : ℝ) : EReal) + 1 = _
      rw [hfl]
      rw [← EReal.coe_one, ← EReal.coe_add]
      congr 1
      push_cast; ring
    · rw [if_neg hne]
      rw [show 8388608#32 = fld 1 from c_one, fld_add, ofBits_fld (n + 1) (by omega), hq']
    · rw [if_neg hne, c_inv n (by omega), ofBits_fld _ (by omega)]
      unfold Q
      rw [if_neg (by omega), if_pos (by omega)]
      congr 2
      omega
    · rw [show (n : ℤ) - 126 - 1 = (n : ℤ) - 127 by ring]; exact r1

theorem scale_eq (a : ℝ) (h0 : 0 ≤ a) (h1 : a < (2 : ℝ) ^ (126 : ℤ)) : scaleS a = Ideal.exp2 (expo a) := by
  obtain ⟨k, e, s, _, _⟩ := quant_eq a h0 h1
  rw [e, s, exp2_coe_int]

theorem inv_eq (a : ℝ) (h0 : 0 ≤ a) (h1 : a < (2 : ℝ) ^ (126 : ℤ)) : invS a = Ideal.exp2 (0 - expo a) := by
  obtain ⟨k, e, _, s, _⟩ := quant_eq a h0 h1
  rw [e, s, zero_sub, ← EReal.coe_neg, ← Int.cast_neg, exp2_coe_int]

end Cert.Value

end
-- ==== Proof.Spec.lean ====
/- What the four results are, element by element on the extended reals, and the sizes of the numbers on the way. -/
module

public import proofs.«01_k».proof.Proof.Quant

@[expose] public section

noncomputable section

namespace Cert.Value

open Idealize.ShloMosaic

/-! ## Constants -/

theorem c_one_f : Ideal.ofBits .f32 0x3F800000#32 = ((1 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_448 : Ideal.ofBits .f32 0x43E00000#32 = ((448 : ℝ) : EReal) := by
  simp [Ideal.ofBits, Ideal.ieee, -EReal.coe_mul]; norm_num
theorem c_n448 : Ideal.ofBits .f32 0xC3E00000#32 = ((-448 : ℝ) : EReal) := by
  simp [Ideal.ofBits, Ideal.ieee, -EReal.coe_mul]; norm_num
theorem c_65536 : Ideal.ofBits .f32 0x47800000#32 = ((65536 : ℝ) : EReal) := by
  simp [Ideal.ofBits, Ideal.ieee, -EReal.coe_mul]; norm_num
theorem c_2560 : Ideal.ofBits .f32 0x45200000#32 = ((2560 : ℝ) : EReal) := by
  simp [Ideal.ofBits, Ideal.ieee, -EReal.coe_mul]; norm_num
theorem c_eps : Ideal.ofBits .f32 0x358637BD#32 = ((8796093 / 2 ^ 43 : ℝ) : EReal) := by
  simp [Ideal.ofBits, Ideal.ieee, -EReal.coe_mul]; norm_num
theorem c_r448 : Ideal.ofBits .f32 0x3B124925#32 = ((9586981 / 2 ^ 32 : ℝ) : EReal) := by
  simp [Ideal.ofBits, Ideal.ieee, -EReal.coe_mul]; norm_num
theorem c_cube : ∃ r : ℝ, Ideal.ofBits .f32 0x3D372713#32 = (r : EReal) := by
  simp [Ideal.ofBits, Ideal.ieee, -EReal.coe_mul]
theorem c_gelu : ∃ r : ℝ, Ideal.ofBits .f32 0x3F4C422A#32 = (r : EReal) := by
  simp [Ideal.ofBits, Ideal.ieee, -EReal.coe_mul]
theorem c_bot : Ideal.ofBits .f32 0xFF800000#32 = ⊥ := by
  simp [Ideal.ofBits, Ideal.ieee, -EReal.coe_mul]

/-! ## The results -/

/-- One element of a normalised row. -/
def nrm (x g : Fin 2560 → EReal) (k : Fin 2560) : EReal :=
  x k * Ideal.rsqrt ((∑ i, x i * x i) * ((1 / 2560 : ℝ) : EReal) + Ideal.ofBits .f32 0x358637BD#32)
    * (Ideal.ofBits .f32 0x3F800000#32 + g k)

/-- The greatest size in a row. -/
def top {n : ℕ} (z : Fin n → EReal) : EReal :=
  Finset.univ.fold max (Ideal.ofBits .f32 0xFF800000#32) fun k => max (z k) (-(z k))

/-- … over 448. -/
def amx {n : ℕ} (z : Fin n → EReal) : EReal := top z * Ideal.ofBits .f32 0x3B124925#32

/-- Clipped to ±448. -/
def clp (v : EReal) : EReal := min (Ideal.ofBits .f32 0x43E00000#32) (max (Ideal.ofBits .f32 0xC3E00000#32) v)

/-- A row's scale. -/
def scl {n : ℕ} (z : Fin n → EReal) : EReal := Ideal.exp2 (expo (amx z))

/-- A row's codes. -/
def cod {n : ℕ} (z : Fin n → EReal) (k : Fin n) : EReal := clp (z k * Ideal.exp2 (0 - expo (amx z)))

/-- A projection of a row's codes, scaled back. -/
def prj (xc w : Fin 2560 → EReal) (xs s : EReal) : EReal := (∑ k, xc k * w k) * xs * s

/-- Gelu of the gate, in its tanh form, times the up projection. -/
def hid (g u : EReal) : EReal :=
  g * (Ideal.ofBits .f32 0x3F000000#32 * (Ideal.ofBits .f32 0x3F800000#32
    + Ideal.tanh (Ideal.ofBits .f32 0x3F4C422A#32 * (g + Ideal.ofBits .f32 0x3D372713#32 * (g * (g * g)))))) * u

/-! ## Sizes -/

/-- A real number of size at most `B`. -/
def IsBd (x : EReal) (B : ℝ) : Prop := ∃ r : ℝ, x = (r : EReal) ∧ |r| ≤ B

theorem IsBd.mono {x : EReal} {B C : ℝ} (h : IsBd x B) (hBC : B ≤ C) : IsBd x C := by
  obtain ⟨r, e, hr⟩ := h; exact ⟨r, e, hr.trans hBC⟩

theorem IsBd.mul {x y : EReal} {B C : ℝ} (hx : IsBd x B) (hy : IsBd y C) : IsBd (x * y) (B * C) := by
  obtain ⟨r, rfl, hr⟩ := hx; obtain ⟨q, rfl, hq⟩ := hy
  exact ⟨r * q, by rw [EReal.coe_mul], by rw [abs_mul]; exact mul_le_mul hr hq (abs_nonneg _) ((abs_nonneg _).trans hr)⟩

theorem IsBd.add {x y : EReal} {B C : ℝ} (hx : IsBd x B) (hy : IsBd y C) : IsBd (x + y) (B + C) := by
  obtain ⟨r, rfl, hr⟩ := hx; obtain ⟨q, rfl, hq⟩ := hy
  exact ⟨r + q, by rw [EReal.coe_add], (abs_add_le _ _).trans (add_le_add hr hq)⟩

theorem IsBd.sum {n : ℕ} {f : Fin n → EReal} {B : ℝ} (h : ∀ k, IsBd (f k) B) : IsBd (∑ k, f k) (n * B) := by
  choose r hr hb using h
  refine ⟨∑ k, r k, ?_, ?_⟩
  · rw [show f = fun k => ((r k : ℝ) : EReal) from funext hr]
    exact (map_sum (⟨⟨Real.toEReal, EReal.coe_zero⟩, EReal.coe_add⟩ : ℝ →+ EReal) _ _).symm
  · refine (Finset.abs_sum_le_sum_abs _ _).trans ?_
    refine (Finset.sum_le_sum fun k _ => hb k).trans ?_
    simp

theorem isBd_coe (r : ℝ) : IsBd (r : EReal) |r| := ⟨r, rfl, le_refl _⟩

/-- Between two reals is a real. -/
theorem IsBd.of_between {x : EReal} {B : ℝ} (h1 : ((-B : ℝ) : EReal) ≤ x) (h2 : x ≤ (B : EReal)) : IsBd x B := by
  induction x using EReal.rec with
  | bot => exact absurd h1 (not_le.2 (EReal.bot_lt_coe _))
  | top => exact absurd h2 (not_le.2 (EReal.coe_lt_top _))
  | coe r => exact ⟨r, rfl, abs_le.2 ⟨EReal.coe_le_coe_iff.1 h1, EReal.coe_le_coe_iff.1 h2⟩⟩

/-- A number whose size compares at most a real is a real of that size. -/
theorem IsBd.of_abs {x : EReal} {B : ℝ} (h : max x (-x) ≤ (B : EReal)) : IsBd x B := by
  obtain ⟨h1, h2⟩ := max_le_iff.1 h
  refine IsBd.of_between ?_ h1
  rw [EReal.coe_neg]
  exact EReal.neg_le.1 h2

theorem clp_bd (v : EReal) : IsBd (clp v) 448 := by
  unfold clp
  rw [c_448, c_n448]
  refine IsBd.of_between ?_ (min_le_left _ _)
  exact le_min (EReal.coe_le_coe_iff.2 (by norm_num)) (le_max_left _ _)

theorem IsBd.tanh {x : EReal} {B : ℝ} (h : IsBd x B) : IsBd (Ideal.tanh x) 1 := by
  obtain ⟨r, rfl, _⟩ := h
  exact ⟨Real.tanh r, rfl, abs_le.2 ⟨(Real.neg_one_lt_tanh r).le, (Real.tanh_lt_one r).le⟩⟩

/-- The greatest size of a row of bounded reals is a real between zero and the bound. -/
theorem top_bd {n : ℕ} (hn : 0 < n) (z : Fin n → EReal) {B : ℝ} (hz : ∀ k, IsBd (z k) B) :
    ∃ r : ℝ, top z = (r : EReal) ∧ 0 ≤ r ∧ r ≤ B := by
  have h1 : top z ≤ (B : EReal) := by
    unfold top
    rw [Finset.fold_max_le, c_bot]
    refine ⟨bot_le, fun k _ => ?_⟩
    obtain ⟨r, e, hr⟩ := hz k
    rw [e, ← EReal.coe_neg]
    exact max_le (EReal.coe_le_coe_iff.2 (abs_le.1 hr).2) (EReal.coe_le_coe_iff.2 (by linarith [(abs_le.1 hr).1]))
  have h0 : (0 : EReal) ≤ top z := by
    unfold top
    rw [Finset.le_fold_max]
    refine Or.inr ⟨⟨0, hn⟩, Finset.mem_univ _, ?_⟩
    obtain ⟨r, e, hr⟩ := hz ⟨0, hn⟩
    rw [e, ← EReal.coe_neg]
    rcases le_total 0 r with h | h
    · exact le_max_of_le_left (EReal.coe_nonneg.2 h)
    · exact le_max_of_le_right (EReal.coe_nonneg.2 (by linarith))
  obtain ⟨r, e, hr⟩ := IsBd.of_between (le_trans (by
    have : (0:ℝ) ≤ B := by obtain ⟨q, _, hq⟩ := hz ⟨0, hn⟩; exact (abs_nonneg _).trans hq
    exact EReal.coe_nonpos.2 (by linarith)) h0) h1
  refine ⟨r, e, ?_, (abs_le.1 hr).2⟩
  rw [e] at h0
  exact EReal.coe_nonneg.1 h0

theorem amx_bd {n : ℕ} (hn : 0 < n) (z : Fin n → EReal) {B : ℝ} (hz : ∀ k, IsBd (z k) B) :
    ∃ r : ℝ, amx z = (r : EReal) ∧ 0 ≤ r ∧ r ≤ B / 256 := by
  obtain ⟨r, e, h0, h1⟩ := top_bd hn z hz
  refine ⟨r * (9586981 / 2 ^ 32), ?_, by positivity, ?_⟩
  · unfold amx; rw [e, c_r448, EReal.coe_mul]
  · calc r * (9586981 / 2 ^ 32) ≤ r * (1 / 256) := by apply mul_le_mul_of_nonneg_left _ h0; norm_num
      _ ≤ B / 256 := by linarith

/-- The kernel takes the size of the quotient once more, which changes nothing. -/
theorem abs_amx {n : ℕ} (hn : 0 < n) (z : Fin n → EReal) {B : ℝ} (hz : ∀ k, IsBd (z k) B) :
    max (amx z) (-(amx z)) = amx z := by
  obtain ⟨r, e, h0, _⟩ := amx_bd hn z hz
  rw [e, ← EReal.coe_neg]
  exact max_eq_left (EReal.coe_le_coe_iff.2 (by linarith))

theorem two_pow_34 : (2 : ℝ) ^ (126 : ℤ) = 2 ^ (126 : ℕ) := by norm_cast

/-- The kernel's scale of a row is the reference's. -/
theorem scaleS_amx {n : ℕ} (hn : 0 < n) (z : Fin n → EReal) {B : ℝ} (hz : ∀ k, IsBd (z k) B) (hB : B ≤ 2 ^ 126) :
    scaleS (amx z) = scl z := by
  obtain ⟨r, e, h0, h1⟩ := amx_bd hn z hz
  unfold scl
  rw [e]
  refine scale_eq r h0 ?_
  rw [two_pow_34]
  have : (0 : ℝ) < 2 ^ 126 := by positivity
  linarith

theorem invS_amx {n : ℕ} (hn : 0 < n) (z : Fin n → EReal) {B : ℝ} (hz : ∀ k, IsBd (z k) B) (hB : B ≤ 2 ^ 126) :
    invS (amx z) = Ideal.exp2 (0 - expo (amx z)) := by
  obtain ⟨r, e, h0, h1⟩ := amx_bd hn z hz
  rw [e]
  refine inv_eq r h0 ?_
  rw [two_pow_34]
  have : (0 : ℝ) < 2 ^ 126 := by positivity
  linarith

/-- A row's scale is at most twice its greatest size over 448, or one. -/
theorem scl_bd {n : ℕ} (hn : 0 < n) (z : Fin n → EReal) {B : ℝ} (hz : ∀ k, IsBd (z k) B) (hB : B ≤ 2 ^ 126) (h1B : 128 ≤ B) :
    IsBd (scl z) (B / 128) := by
  obtain ⟨r, e, h0, h1⟩ := amx_bd hn z hz
  have hlt : r < (2 : ℝ) ^ (126 : ℤ) := by
    rw [two_pow_34]
    have : (0 : ℝ) < 2 ^ 126 := by positivity
    linarith
  obtain ⟨k, he, hs, hi, hk⟩ := quant_eq r h0 hlt
  unfold scl
  rw [e, he, exp2_coe_int]
  refine ⟨_, rfl, ?_⟩
  rw [abs_of_pos (by positivity)]
  rcases hk with hk | hk
  · subst hk
    simp
    linarith
  · rw [zpow_sub₀ (by norm_num)] at hk
    norm_num at hk
    linarith

theorem sq_nonneg' (x : EReal) : 0 ≤ x * x := by
  induction x using EReal.rec with
  | bot => simp
  | top => simp
  | coe r => rw [← EReal.coe_mul]; exact EReal.coe_nonneg.2 (mul_self_nonneg r)

/-- A normalised element is at most the root of the row's length, whatever the row holds. -/
theorem unit_bd (x : Fin 2560 → EReal) (k : Fin 2560) :
    IsBd (x k * Ideal.rsqrt ((∑ i, x i * x i) * ((1 / 2560 : ℝ) : EReal) + Ideal.ofBits .f32 0x358637BD#32)) 51 := by
  rw [c_eps]
  by_cases hx : ∀ i, ∃ r : ℝ, x i = (r : EReal)
  · choose r hr using hx
    have hs : (∑ i, x i * x i) = ((∑ i, r i * r i : ℝ) : EReal) := by
      rw [show (fun i => x i * x i) = fun i => ((r i * r i : ℝ) : EReal) from
        funext fun i => by rw [hr i, EReal.coe_mul]]
      exact (map_sum (⟨⟨Real.toEReal, EReal.coe_zero⟩, EReal.coe_add⟩ : ℝ →+ EReal) _ _).symm
    have hS : r k * r k ≤ ∑ i, r i * r i :=
      Finset.single_le_sum (f := fun i => r i * r i) (fun i _ => mul_self_nonneg (r i)) (Finset.mem_univ k)
    have hS0 : 0 ≤ ∑ i, r i * r i := (mul_self_nonneg (r k)).trans hS
    rw [hs, ← EReal.coe_mul, ← EReal.coe_add, hr k]
    generalize (∑ i, r i * r i) = S at hS hS0
    have hd : 0 < S * (1 / 2560) + 8796093 / 2 ^ 43 := by positivity
    rw [Ideal.rsqrt_coe, if_neg (not_lt.2 hd.le), if_neg hd.ne', ← EReal.coe_mul]
    refine ⟨_, rfl, ?_⟩
    rw [← div_eq_mul_inv, abs_div, abs_of_pos (Real.sqrt_pos.2 hd), div_le_iff₀ (Real.sqrt_pos.2 hd)]
    rw [show (51 : ℝ) = Real.sqrt (51 ^ 2) from (Real.sqrt_sq (by norm_num)).symm, ← Real.sqrt_mul (by norm_num)]
    apply Real.le_sqrt_of_sq_le
    rw [sq_abs]
    have : (0 : ℝ) < 8796093 / 2 ^ 43 := by positivity
    nlinarith
  · push Not at hx
    obtain ⟨i, hi⟩ := hx
    have hi' : x i * x i = ⊤ := by
      induction h : x i using EReal.rec with
      | bot => simp
      | top => simp
      | coe r => exact absurd h (hi r)
    have hs : (∑ i, x i * x i) = ⊤ := by
      refine top_le_iff.1 ?_
      rw [← hi']
      exact Finset.single_le_sum (f := fun i => x i * x i) (fun i _ => sq_nonneg' (x i)) (Finset.mem_univ i)
    rw [hs, EReal.top_mul_coe_of_pos (by norm_num), EReal.top_add_coe, Ideal.rsqrt_top, mul_zero]
    exact ⟨0, rfl, by norm_num⟩

theorem nrm_bd (x g : Fin 2560 → EReal) (hg : ∀ k, IsBd (g k) 65536) (k : Fin 2560) : IsBd (nrm x g k) (2 ^ 22) := by
  unfold nrm
  rw [c_one_f]
  refine ((unit_bd x k).mul ((isBd_coe 1).add (hg k))).mono ?_
  norm_num

theorem prj_bd (xc w : Fin 2560 → EReal) (xs s : EReal) (hc : ∀ k, IsBd (xc k) 448) (hw : ∀ k, IsBd (w k) 448)
    (hx : IsBd xs (2 ^ 15)) (hs : IsBd s 65536) : IsBd (prj xc w xs s) (2 ^ 60) := by
  unfold prj
  refine (((IsBd.sum fun k => (hc k).mul (hw k)).mul hx).mul hs).mono ?_
  norm_num

theorem hid_bd (g u : EReal) (hg : IsBd g (2 ^ 60)) (hu : IsBd u (2 ^ 60)) : IsBd (hid g u) (2 ^ 120) := by
  unfold hid
  obtain ⟨c, hc⟩ := c_cube
  obtain ⟨d, hd⟩ := c_gelu
  rw [hc, hd, c_half, c_one_f]
  refine ((hg.mul ((isBd_coe (1 / 2)).mul ((isBd_coe 1).add
    ((isBd_coe d).mul (hg.add ((isBd_coe c).mul (hg.mul (hg.mul hg))))).tanh))).mul hu).mono ?_
  norm_num

/-! ## The hidden activations -/

/-- The hidden activation of a normalised row `z` in column `C`: the gate's weights in the first half of the columns,
    the up projection's in the second. -/
def act (z : Fin 2560 → EReal) (w : Fin 2560 → Fin 20480 → EReal) (s : Fin 20480 → EReal) (C : Fin 10240) : EReal :=
  hid (prj (cod z) (fun k => w k ⟨C.val, by omega⟩) (scl z) (s ⟨C.val, by omega⟩))
    (prj (cod z) (fun k => w k ⟨10240 + C.val, by omega⟩) (scl z) (s ⟨10240 + C.val, by omega⟩))

/-- The 128 activations of group `l`. -/
def grp (z : Fin 2560 → EReal) (w : Fin 2560 → Fin 20480 → EReal) (s : Fin 20480 → EReal) (l : Fin 80) (q : Fin 128) : EReal :=
  act z w s ⟨l.val * 128 + q.val, by omega⟩

theorem act_bd (z : Fin 2560 → EReal) (w : Fin 2560 → Fin 20480 → EReal) (s : Fin 20480 → EReal) (hz : ∀ k, IsBd (z k) (2 ^ 22))
    (hw : ∀ k n, IsBd (w k n) 448) (hs : ∀ n, IsBd (s n) 65536) (C : Fin 10240) : IsBd (act z w s C) (2 ^ 120) := by
  unfold act
  have hx : IsBd (scl z) (2 ^ 15) := (scl_bd (by norm_num) z hz (by norm_num) (by norm_num)).mono (by norm_num)
  exact hid_bd _ _ (prj_bd _ _ _ _ (fun k => clp_bd _) (fun k => hw k _) hx (hs _))
    (prj_bd _ _ _ _ (fun k => clp_bd _) (fun k => hw k _) hx (hs _))

end Cert.Value

end
-- ==== Proof.Rows.lean ====
/- The kernel's vector functions read at an element, on the extended reals: the quantiser, and the rows of the input. -/
module

public import proofs.«01_k».proof.Proof.Spec
public import proofs.«01_k».proof.Proof.Loop
public import Idealize.ShloMosaic.Lib.Pointwise

@[expose] public section

set_option maxRecDepth 16384

noncomputable section

namespace Cert.KernelIdeal.Hand

open Idealize.ShloMosaic Idealize.SL.Sem
open Cert.KernelIdeal Cert.KernelIdeal.Gen Cert.Value

variable {s : Shape}

theorem rung_apply (w : BitVec 32) (a : FVec Ideal s .f32) (b : IVec s 32) (x : s.Idx) :
    rung w a b x = stepS w (a x) (b x) := by
  show (if (Ideal.cmp .olt (a x) (Ideal.ofBits .f32 (b x + w))) = 1#1 then b x else b x + w) = _
  unfold stepS Ideal.cmp
  by_cases h : a x < Ideal.ofBits .f32 (b x + w)
  · simp only [h, if_true, decide_true, BitVec.ofBool_true]; rfl
  · simp only [h, if_false, decide_false, BitVec.ofBool_false]; rfl

theorem expField_apply (a : FVec Ideal s .f32) (x : s.Idx) : expField a x = fieldS (a x) := by
  unfold expField fieldS
  simp only [rung_apply]
  rfl

theorem fieldOr126_apply (a : FVec Ideal s .f32) (x : s.Idx) : fieldOr126 a x = field126 (a x) := by
  unfold fieldOr126 field126
  rw [← expField_apply]
  show (if (IntOp.cmpi .eq (expField a x) 0#32) = 1#1 then _ else _) = _
  by_cases h : expField a x = 0#32
  · simp [h, IntOp.cmpi]; rfl
  · have h' : (expField a x == 0#32) = false := by simpa using h
    simp [h, h', IntOp.cmpi]

theorem scaleV_apply (a : FVec Ideal s .f32) (x : s.Idx) : scaleV a x = scaleS (a x) := by
  unfold scaleS
  rw [← fieldOr126_apply]
  rfl

theorem invV_apply (a : FVec Ideal s .f32) (x : s.Idx) : invV a x = invS (a x) := by
  unfold invS
  rw [← fieldOr126_apply]
  rfl

theorem clipV_apply (v : FVec Ideal s .f32) (x : s.Idx) : clipV v x = clp (v x) := rfl

/-- A normalised element of the thirty-two rows. -/
theorem pay3_apply (x : Vec Ideal S32x2560 .bf16) (g : Vec Ideal S1x2560 .f32) (r : Fin 32) (k : Fin 2560) :
    k0_pay3 x g (ix2 r k) = nrm (fun i => x (ix2 r i)) (fun i => g (ix2 0 i)) k := by
  pointwise [k0_pay3, nrm]
  rw [IdealRules.named_const.ideal_named_scalar _ _ _ _ rfl]

/-- Their greatest sizes over 448. -/
theorem pay4_apply (x : Vec Ideal S32x2560 .bf16) (g : Vec Ideal S1x2560 .f32) (r : Fin 32) (l : Fin 128) :
    k0_pay4 x g (ix2 r l) = max (amx (fun k => k0_pay3 x g (ix2 r k))) (-(amx (fun k => k0_pay3 x g (ix2 r k)))) := by
  pointwise [k0_pay4, amx, top]
  rfl

/-- The normalised row is bounded when the gain is. -/
theorem row_bd (x : Vec Ideal S32x2560 .bf16) (g : Vec Ideal S1x2560 .f32) (hg : ∀ k, IsBd (g (ix2 0 k)) 65536) (r : Fin 32) (k : Fin 2560) :
    IsBd (k0_pay3 x g (ix2 r k)) (2 ^ 22) := by
  rw [pay3_apply]; exact nrm_bd _ _ hg k

theorem pay4_amx (x : Vec Ideal S32x2560 .bf16) (g : Vec Ideal S1x2560 .f32) (hg : ∀ k, IsBd (g (ix2 0 k)) 65536) (r : Fin 32) (l : Fin 128) :
    k0_pay4 x g (ix2 r l) = amx (nrm (fun i => x (ix2 r i)) (fun i => g (ix2 0 i))) := by
  rw [pay4_apply, abs_amx (by norm_num) _ (fun k => row_bd x g hg r k)]
  simp only [pay3_apply]

theorem rowScales_apply (x : Vec Ideal S32x2560 .bf16) (g : Vec Ideal S1x2560 .f32) (hg : ∀ k, IsBd (g (ix2 0 k)) 65536) (r : Fin 32) (l : Fin 128) :
    rowScales x g (ix2 r l) = scl (nrm (fun i => x (ix2 r i)) (fun i => g (ix2 0 i))) := by
  unfold rowScales
  rw [scaleV_apply, pay4_amx x g hg, scaleS_amx (by norm_num) _ (fun k => nrm_bd _ _ hg k) (by norm_num)]

theorem rowCodes_apply (x : Vec Ideal S32x2560 .bf16) (g : Vec Ideal S1x2560 .f32) (hg : ∀ k, IsBd (g (ix2 0 k)) 65536) (r : Fin 32) (k : Fin 2560) :
    rowCodes x g (ix2 r k) = cod (nrm (fun i => x (ix2 r i)) (fun i => g (ix2 0 i))) k := by
  unfold rowCodes cod
  rw [clipV_apply]
  have h : (mulf (k0_pay3 x g) (broadcastTo S32x2560
      (extractStridedSlice S32x1 ![0, 0] (invV (k0_pay4 x g)) slices_S32x128_o0_0_S32x1) broadcasts_S32x1_S32x2560)) (ix2 r k)
      = k0_pay3 x g (ix2 r k) * invV (k0_pay4 x g) (ix2 r 0) := by
    pointwise
  rw [h, invV_apply, pay4_amx x g hg, pay3_apply, invS_amx (by norm_num) _ (fun k => nrm_bd _ _ hg k) (by norm_num)]

/-- The rows of the input a group of thirty-two reads. -/
theorem rowsL_apply (x0 : Vec Ideal S1024x2560 .bf16) (r : Fin 1024) (i : Fin 2560) :
    rowsL x0 (r.val / 32 * 32) (ix2 ⟨r.val % 32, Nat.mod_lt _ (by decide)⟩ i) = x0 (ix2 r i) := by
  unfold rowsL
  refine congrArg x0 ?_
  funext a
  apply Fin.ext
  match a with
  | ⟨0, _⟩ => show (r.val / 32 * 32 + r.val % 32) % 1024 = r.val; omega
  | ⟨1, _⟩ => rfl

variable (x0 : Vec Ideal S1024x2560 .bf16) (x1 : Vec Ideal S1x2560 .f32) (hg : ∀ k, IsBd (x1 (ix2 0 k)) 65536)

/-- The normalised row `r`. -/
def rowN (r : Fin 1024) : Fin 2560 → EReal := nrm (fun i => x0 (ix2 r i)) (fun i => x1 (ix2 0 i))

include hg

theorem xcF_apply (r : Fin 1024) (k : Fin 2560) : xcF x0 x1 (ix2 r k) = cod (rowN x0 x1 r) k := by
  refine (rowCodes_apply (rowsL x0 (r.val / 32 * 32)) x1 hg ⟨r.val % 32, Nat.mod_lt _ (by decide)⟩ k).trans ?_
  simp only [rowsL_apply]
  rfl

theorem xsF_apply (r : Fin 1024) (l : Fin 128) : xsF x0 x1 (ix2 r l) = scl (rowN x0 x1 r) := by
  refine (rowScales_apply (rowsL x0 (r.val / 32 * 32)) x1 hg ⟨r.val % 32, Nat.mod_lt _ (by decide)⟩ l).trans ?_
  simp only [rowsL_apply]
  rfl

theorem xsoF_apply (r : Fin 1024) (l : Fin 1) : xsoF x0 x1 (ix2 r l) = scl (rowN x0 x1 r) := by
  refine (rowScales_apply (rowsL x0 (r.val / 32 * 32)) x1 hg ⟨r.val % 32, Nat.mod_lt _ (by decide)⟩ 0).trans ?_
  simp only [rowsL_apply]
  rfl

end Cert.KernelIdeal.Hand

end
-- ==== Proof.Hidden.lean ====
/- The hidden activations of a block read at an element, on the extended reals: the projections, the gated product,
   its codes and scales. -/
module

public import proofs.«01_k».proof.Proof.Rows
public import proofs.«01_k».proof.Proof.Setup

@[expose] public section

set_option maxRecDepth 16384

noncomputable section

namespace Cert.KernelIdeal.Hand

open Idealize.ShloMosaic Idealize.SL.Sem
open Cert.KernelIdeal Cert.KernelIdeal.Gen Cert.Value

theorem halfL_apply (xc : FVec Ideal S256x2560 .fp8e4m3) (w : FVec Ideal S2560x256 .fp8e4m3) (p : Fin 256) (q : Fin 128) :
    halfL xc w (ix2 p q) = ∑ k : Fin 2560, xc (ix2 p k) * w (ix2 k ⟨q.val, by omega⟩) := by
  pointwise [halfL]

theorem halfR_apply (xc : FVec Ideal S256x2560 .fp8e4m3) (w : FVec Ideal S2560x256 .fp8e4m3) (p : Fin 256) (q : Fin 128) :
    halfR xc w (ix2 p q) = ∑ k : Fin 2560, xc (ix2 p k) * w (ix2 k ⟨128 + q.val, by omega⟩) := by
  pointwise [halfR]

/-- The kernel halves the row scale before the up projection and multiplies in another order: the same product. -/
theorem prodV_apply (ag au xs : FVec Ideal S256x128 .f32) (sg su : FVec Ideal S1x128 .f32) (p : Fin 256) (q : Fin 128) :
    prodV ag au xs sg su (ix2 p q)
      = hid (ag (ix2 p q) * xs (ix2 p q) * sg (ix2 0 q)) (au (ix2 p q) * xs (ix2 p q) * su (ix2 0 q)) := by
  have h : prodV ag au xs sg su (ix2 p q)
      = gateV ag xs sg (ix2 p q) * (Ideal.ofBits .f32 0x3F800000#32 + Ideal.tanh (Ideal.ofBits .f32 0x3F4C422A#32
          * (gateV ag xs sg (ix2 p q) + Ideal.ofBits .f32 0x3D372713#32
            * (gateV ag xs sg (ix2 p q) * gateV ag xs sg (ix2 p q) * gateV ag xs sg (ix2 p q)))))
        * upV au xs su (ix2 p q) := rfl
  have hg : gateV ag xs sg (ix2 p q) = ag (ix2 p q) * xs (ix2 p q) * sg (ix2 0 q) := by pointwise [gateV]
  have hu : upV au xs su (ix2 p q) = au (ix2 p q) * (Ideal.ofBits .f32 0x3F000000#32 * xs (ix2 p q)) * su (ix2 0 q) := by
    pointwise [upV]
  rw [h, hg, hu]
  generalize ag (ix2 p q) * xs (ix2 p q) * sg (ix2 0 q) = g
  unfold hid
  rw [mul_assoc g g g]
  generalize Ideal.ofBits .f32 0x3F800000#32 + Ideal.tanh _ = t
  generalize Ideal.ofBits .f32 0x3F000000#32 = c
  ac_rfl

theorem blockH_apply (x2 x3 : Vec Ideal S2560x512 .fp8e4m3) (x4 x5 : Vec Ideal S1x512 .f32) (y8 : Vec Ideal S1024x2560 .fp8e4m3)
    (ys : Vec Ideal S1024x128 .f32) (R C : ℕ) (hR : R + 256 ≤ 1024) (hC : C % 128 = 0) (hC' : C + 128 ≤ 512) (p : Fin 256) (q : Fin 128) :
    blockH x2 x3 x4 x5 y8 ys R C (ix2 p q)
      = hid (prj (fun k => y8 (ix2 ⟨R + p.val, by omega⟩ k)) (fun k => x2 (ix2 k ⟨C + q.val, by omega⟩))
            (ys (ix2 ⟨R + p.val, by omega⟩ q)) (x4 (ix2 0 ⟨C + q.val, by omega⟩)))
          (prj (fun k => y8 (ix2 ⟨R + p.val, by omega⟩ k)) (fun k => x3 (ix2 k ⟨C + q.val, by omega⟩))
            (ys (ix2 ⟨R + p.val, by omega⟩ q)) (x5 (ix2 0 ⟨C + q.val, by omega⟩))) := by
  have e8 : ∀ k : Fin 2560, xcL y8 R (ix2 p k) = y8 (ix2 ⟨R + p.val, by omega⟩ k) := fun k =>
    congrArg y8 (funext fun a => Fin.ext (match a with
      | ⟨0, _⟩ => Nat.mod_eq_of_lt (show R + p.val < 1024 by omega)
      | ⟨1, _⟩ => rfl))
  have es : xsL ys R (ix2 p q) = ys (ix2 ⟨R + p.val, by omega⟩ q) :=
    congrArg ys (funext fun a => Fin.ext (match a with
      | ⟨0, _⟩ => Nat.mod_eq_of_lt (show R + p.val < 1024 by omega)
      | ⟨1, _⟩ => rfl))
  have ec : ∀ x : Vec Ideal S1x512 .f32, sL x C (ix2 0 q) = x (ix2 0 ⟨C + q.val, by omega⟩) := fun x =>
    congrArg x (funext fun a => Fin.ext (match a with
      | ⟨0, _⟩ => rfl
      | ⟨1, _⟩ => Nat.mod_eq_of_lt (show C + q.val < 512 by omega)))
  have ew : ∀ (x : Vec Ideal S2560x512 .fp8e4m3) (D : ℕ) (j : Fin 256) (k : Fin 2560) (_ : D + j.val = C + q.val),
      wL x D (ix2 k j) = x (ix2 k ⟨C + q.val, by omega⟩) := fun x D j k h =>
    congrArg x (funext fun a => Fin.ext (match a with
      | ⟨0, _⟩ => rfl
      | ⟨1, _⟩ => (show (D + j.val) % 512 = C + q.val by omega)))
  unfold blockH prj
  split_ifs with h
  · rw [prodV_apply, halfL_apply, halfL_apply, es, ec, ec]
    simp only [e8, ew _ (C / 256 * 256) ⟨q.val, by omega⟩ _ (show C / 256 * 256 + q.val = C + q.val by omega)]
  · rw [prodV_apply, halfR_apply, halfR_apply, es, ec, ec]
    simp only [e8, ew _ (C / 256 * 256) ⟨128 + q.val, by omega⟩ _ (show C / 256 * 256 + (128 + q.val) = C + q.val by omega)]

theorem amaxV_apply (h : FVec Ideal S256x128 .f32) (hb : ∀ p q, IsBd (h (ix2 p q)) (2 ^ 120)) (p : Fin 256) (q : Fin 128) :
    amaxV h (ix2 p q) = amx (fun l => h (ix2 p l)) := by
  rw [← abs_amx (by norm_num) _ (fun k => hb p k)]
  pointwise [amaxV, amx, top]
  rfl

theorem codesV_apply (h : FVec Ideal S256x128 .f32) (hb : ∀ p q, IsBd (h (ix2 p q)) (2 ^ 120)) (p : Fin 256) (q : Fin 128) :
    codesV h (ix2 p q) = cod (fun l => h (ix2 p l)) q := by
  have e : codesV h (ix2 p q) = clp (h (ix2 p q) * invV (amaxV h) (ix2 p q)) := rfl
  rw [e, invV_apply, amaxV_apply h hb, invS_amx (by norm_num) _ (fun k => hb p k) (by norm_num)]
  rfl

theorem scalesV_apply (h : FVec Ideal S256x128 .f32) (hb : ∀ p q, IsBd (h (ix2 p q)) (2 ^ 120)) (p : Fin 256) (l : Fin 80) :
    scalesV h (ix2 p l) = scl (fun l => h (ix2 p l)) := by
  have e : scalesV h (ix2 p l) = scaleV (amaxV h) (ix2 p ⟨l.val, by omega⟩) := by pointwise [scalesV]
  rw [e, scaleV_apply, amaxV_apply h hb, scaleS_amx (by norm_num) _ (fun k => hb p k) (by norm_num)]

end Cert.KernelIdeal.Hand

end
-- ==== Proof.KernelValue.lean ====
/- The kernel's four result arrays as functions of its arguments, on the extended reals. -/
module

public import proofs.«01_k».proof.Proof.Final
public import proofs.«01_k».proof.Proof.Hidden
public import Idealize.ShloMosaic.Lib.StableHlo.Run
public import Idealize.ShloMosaic.Lib.Pipeline.ValueKit

@[expose] public section

set_option maxRecDepth 65536

noncomputable section

namespace Cert.KernelIdeal.Hand

open Idealize.ShloMosaic Idealize.ShloMosaic.TcCoe Idealize.ShloMosaic.Tactic Idealize.SL.Sem
open Idealize.ShloMosaic.StableHlo
open Cert.KernelIdeal Cert.KernelIdeal.Gen Cert.Value

variable (m : (ℓ : Loc nD τ sig) → Buf (Elt Ideal) ℓ)

/-! ## The arrays the windows read -/

/-- The weights: narrowing is the identity here. -/
theorem V_0 (c : Dev nD) : V m c main_v0 = m ((c : Thread nD τ).loc main_arg2) := by
  unfold_abbrev_sides
  after_results
  rfl

/-- The input's rows. -/
theorem V_1 (c : Dev nD) : V m c main_v1 = shapeCast S1024x2560 (m ((c : Thread nD τ).loc main_arg0)) shapeCasts_S2x512x2560_S1024x2560 := by
  unfold_abbrev_sides
  after_results
  rfl

theorem V_2 (c : Dev nD) (k : Fin 2560) : V m c main_v2 (ix2 0 k) = m ((c : Thread nD τ).loc main_arg1) (ix1 k) := by
  have h : V m c main_v2 = shapeCast S1x2560 (m ((c : Thread nD τ).loc main_arg1)) shapeCasts_S2560_S1x2560 := by
    unfold_abbrev_sides
    after_results
    rfl
  rw [h]
  pointwise

theorem scales_row (v : S20480.Idx → EReal) (k : Fin 20480) :
    shapeCast S1x20480 v shapeCasts_S20480_S1x20480 (ix2 0 k) = v (ix1 k) := by
  pointwise

theorem V_3 (c : Dev nD) (k : Fin 20480) : V m c main_v3 (ix2 0 k) = m ((c : Thread nD τ).loc main_arg3) (ix1 k) := by
  have h : V m c main_v3 = shapeCast S1x20480 (m ((c : Thread nD τ).loc main_arg3)) shapeCasts_S20480_S1x20480 := by
    unfold_abbrev_sides
    after_results
    rfl
  rw [h]
  exact scales_row _ k

theorem V_4 (c : Dev nD) (k : Fin 20480) : V m c main_v4 (ix2 0 k) = m ((c : Thread nD τ).loc main_arg3) (ix1 k) := by
  have h : V m c main_v4 = shapeCast S1x20480 (m ((c : Thread nD τ).loc main_arg3)) shapeCasts_S20480_S1x20480 := by
    unfold_abbrev_sides
    after_results
    rfl
  rw [h]
  exact scales_row _ k

/-! ## Their blocks -/

theorem e0 : ∀ t : Fin cfg0.N, win0_0.index t = ![0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, t.val] := (by decide +kernel : ∀ t : Fin grid0.N, _)
theorem e3 : ∀ t : Fin cfg0.N, win0_3.index t = ![0, t.val + 20] := (by decide +kernel : ∀ t : Fin grid0.N, _)
theorem e4 : ∀ t : Fin cfg0.N, win0_4.index t = ![0, t.val] := (by decide +kernel : ∀ t : Fin grid0.N, _)
theorem e5 : ∀ t : Fin cfg0.N, win0_5.index t = ![0, t.val + 20] := (by decide +kernel : ∀ t : Fin grid0.N, _)

theorem blk_0 (c : Dev nD) (r : Fin 1024) (i : Fin 2560) : iblk m c 0 P0 (ix2 r i) = V m c main_v1 (ix2 r i) := by
  blk_simp [iblk]
  blk_ext [e0]

theorem blk_1 (c : Dev nD) (i : Fin 2560) : iblk m c 1 P0 (ix2 0 i) = V m c main_v2 (ix2 0 i) := by
  blk_simp [iblk]
  blk_ext [e1]

theorem blk_2 (c : Dev nD) (t : Fin cfg0.N) (ht : t.val < 20) (k : Fin 2560) (q : Fin 512) :
    iblk m c 2 t (ix2 k q) = V m c main_v0 (ix2 k ⟨t.val * 512 + q.val, by omega⟩) := by
  blk_simp [iblk]
  blk_ext [e2]

theorem blk_3 (c : Dev nD) (t : Fin cfg0.N) (ht : t.val < 20) (k : Fin 2560) (q : Fin 512) :
    iblk m c 3 t (ix2 k q) = V m c main_v0 (ix2 k ⟨(t.val + 20) * 512 + q.val, by omega⟩) := by
  blk_simp [iblk]
  blk_ext [e3]

theorem blk_4 (c : Dev nD) (t : Fin cfg0.N) (ht : t.val < 20) (q : Fin 512) :
    iblk m c 4 t (ix2 0 q) = V m c main_v3 (ix2 0 ⟨t.val * 512 + q.val, by omega⟩) := by
  blk_simp [iblk]
  blk_ext [e4]

theorem blk_5 (c : Dev nD) (t : Fin cfg0.N) (ht : t.val < 20) (q : Fin 512) :
    iblk m c 5 t (ix2 0 q) = V m c main_v4 (ix2 0 ⟨(t.val + 20) * 512 + q.val, by omega⟩) := by
  blk_simp [iblk]
  blk_ext [e5]

/-! ## The results -/

/-- The arguments as plain functions: the input's rows, the gain, the weights and their scales. -/
def Xa (c : Dev nD) (r : Fin 1024) (i : Fin 2560) : EReal :=
  shapeCast S1024x2560 (m ((c : Thread nD τ).loc main_arg0)) shapeCasts_S2x512x2560_S1024x2560 (ix2 r i)
def Ga (c : Dev nD) (i : Fin 2560) : EReal := m ((c : Thread nD τ).loc main_arg1) (ix1 i)
def Wa (c : Dev nD) (k : Fin 2560) (n : Fin 20480) : EReal := m ((c : Thread nD τ).loc main_arg2) (ix2 k n)
def Sa (c : Dev nD) (n : Fin 20480) : EReal := m ((c : Thread nD τ).loc main_arg3) (ix1 n)

theorem weights_gate (c : Dev nD) (t : Fin cfg0.N) (ht : t.val < 20) (k : Fin 2560) (q : Fin 512) :
    iblk m c 2 t (ix2 k q) = Wa m c k ⟨t.val * 512 + q.val, by omega⟩ :=
  (blk_2 m c t ht k q).trans (congrFun (V_0 m c) _)
theorem weights_up (c : Dev nD) (t : Fin cfg0.N) (ht : t.val < 20) (k : Fin 2560) (q : Fin 512) :
    iblk m c 3 t (ix2 k q) = Wa m c k ⟨(t.val + 20) * 512 + q.val, by omega⟩ :=
  (blk_3 m c t ht k q).trans (congrFun (V_0 m c) _)
theorem scales_gate (c : Dev nD) (t : Fin cfg0.N) (ht : t.val < 20) (q : Fin 512) :
    iblk m c 4 t (ix2 0 q) = Sa m c ⟨t.val * 512 + q.val, by omega⟩ :=
  (blk_4 m c t ht q).trans (V_3 m c _)
theorem scales_up (c : Dev nD) (t : Fin cfg0.N) (ht : t.val < 20) (q : Fin 512) :
    iblk m c 5 t (ix2 0 q) = Sa m c ⟨(t.val + 20) * 512 + q.val, by omega⟩ :=
  (blk_5 m c t ht q).trans (V_4 m c _)

/-- The normalised row `r`. -/
def Za (c : Dev nD) (r : Fin 1024) : Fin 2560 → EReal := nrm (Xa m c r) (Ga m c)

/-- The bounds the arguments meet. -/
structure Bounds (c : Dev nD) : Prop where
  gain : ∀ i, IsBd (Ga m c i) 65536
  weights : ∀ k n, IsBd (Wa m c k n) 448
  scales : ∀ n, IsBd (Sa m c n) 65536

variable {m} {c : Dev nD} (hb : Bounds m c)
include hb

theorem gain_bd (k : Fin 2560) : IsBd (iblk m c 1 P0 (ix2 0 k)) 65536 := by
  rw [blk_1, V_2]; exact hb.gain k

omit hb in
theorem rowN_eq (r : Fin 1024) : rowN (iblk m c 0 P0) (iblk m c 1 P0) r = Za m c r := by
  unfold rowN Za
  have h0 : (fun i => iblk m c 0 P0 (ix2 r i)) = Xa m c r := funext fun i => by rw [blk_0, V_1]; rfl
  have h1 : (fun i => iblk m c 1 P0 (ix2 0 i)) = Ga m c := funext fun i => by rw [blk_1, V_2]; rfl
  exact congrArg₂ nrm h0 h1

theorem XC_apply (r : Fin 1024) (k : Fin 2560) : XC m c (ix2 r k) = cod (Za m c r) k := by
  rw [← rowN_eq]; exact xcF_apply _ _ (gain_bd hb) r k

theorem XO_apply (r : Fin 1024) (l : Fin 1) : XO m c (ix2 r l) = scl (Za m c r) := by
  rw [← rowN_eq]; exact xsoF_apply _ _ (gain_bd hb) r l

theorem XS_apply (r : Fin 1024) (l : Fin 128) : XS m c (ix2 r l) = scl (Za m c r) := by
  rw [← rowN_eq]; exact xsF_apply _ _ (gain_bd hb) r l

theorem Za_bd (r : Fin 1024) (k : Fin 2560) : IsBd (Za m c r k) (2 ^ 22) := nrm_bd _ _ hb.gain k

/-- A block of hidden activations at point `t`, rows from `R`, columns from `C`: the activations of column `512 t + C`. -/
theorem block_act (t : Fin cfg0.N) (ht : t.val < 20) (R C : ℕ) (hR : R + 256 ≤ 1024) (hC : C % 128 = 0) (hC' : C + 128 ≤ 512)
    (p : Fin 256) (q : Fin 128) :
    blockH (iblk m c 2 t) (iblk m c 3 t) (iblk m c 4 t) (iblk m c 5 t) (XC m c) (XS m c) R C (ix2 p q)
      = act (Za m c ⟨R + p.val, by omega⟩) (Wa m c) (Sa m c) ⟨t.val * 512 + C + q.val, by omega⟩ := by
  rw [blockH_apply _ _ _ _ _ _ R C hR hC hC' p q]
  unfold act
  have a1 : (⟨t.val * 512 + (C + q.val), by omega⟩ : Fin 20480) = ⟨t.val * 512 + C + q.val, by omega⟩ := Fin.ext (by simp only; omega)
  have a2 : (⟨(t.val + 20) * 512 + (C + q.val), by omega⟩ : Fin 20480) = ⟨10240 + (t.val * 512 + C + q.val), by omega⟩ :=
    Fin.ext (by simp only; omega)
  simp only [XC_apply hb, XS_apply hb, weights_gate m c t ht, weights_up m c t ht, scales_gate m c t ht, scales_up m c t ht, a1, a2]

theorem block_bd (t : Fin cfg0.N) (ht : t.val < 20) (R C : ℕ) (hR : R + 256 ≤ 1024) (hC : C % 128 = 0) (hC' : C + 128 ≤ 512)
    (p : Fin 256) (q : Fin 128) :
    IsBd (blockH (iblk m c 2 t) (iblk m c 3 t) (iblk m c 4 t) (iblk m c 5 t) (XC m c) (XS m c) R C (ix2 p q)) (2 ^ 120) := by
  rw [block_act hb t ht R C hR hC hC' p q]
  exact act_bd _ _ _ (Za_bd hb _) hb.weights hb.scales _

/-- The block's row is the activations of one group. -/
theorem block_grp (t : Fin cfg0.N) (ht : t.val < 20) (r : Fin 1024) (j : ℕ) (hj : j < 4) (l : Fin 80) (hl : l.val = t.val * 4 + j) :
    (fun q : Fin 128 => blockH (iblk m c 2 t) (iblk m c 3 t) (iblk m c 4 t) (iblk m c 5 t) (XC m c) (XS m c) (r.val / 256 * 256) (j * 128)
      (ix2 ⟨r.val % 256, Nat.mod_lt _ (by decide)⟩ q)) = grp (Za m c r) (Wa m c) (Sa m c) l := by
  funext q
  rw [block_act hb t ht _ _ (by omega) (by omega) (by omega)]
  unfold grp
  have a1 : (⟨r.val / 256 * 256 + r.val % 256, by omega⟩ : Fin 1024) = r := Fin.ext (by simp only; omega)
  have a2 : (⟨t.val * 512 + j * 128 + q.val, by omega⟩ : Fin 10240) = ⟨l.val * 128 + q.val, by omega⟩ := Fin.ext (by simp only; omega)
  exact congrArg₂ (fun a b => act (Za m c a) (Wa m c) (Sa m c) b) a1 a2

theorem HCw_apply (r : Fin 1024) (C : Fin 10240) :
    HCw m c (ix2 r C) = cod (grp (Za m c r) (Wa m c) (Sa m c) ⟨C.val / 128, by omega⟩) ⟨C.val % 128, Nat.mod_lt _ (by decide)⟩ := by
  have hC := C.isLt
  have hp : (pt (C.val / 512)).val = C.val / 512 := Nat.mod_eq_of_lt (by omega)
  have ht : (pt (C.val / 512)).val < 20 := by omega
  have e : HCw m c (ix2 r C) = codesV (blockH (iblk m c 2 (pt (C.val / 512))) (iblk m c 3 (pt (C.val / 512)))
      (iblk m c 4 (pt (C.val / 512))) (iblk m c 5 (pt (C.val / 512))) (XC m c) (XS m c) (r.val / 256 * 256) (C.val % 512 / 128 * 128))
      (ix2 ⟨r.val % 256, Nat.mod_lt _ (by decide)⟩ ⟨C.val % 512 % 128, Nat.mod_lt _ (by decide)⟩) := rfl
  rw [e, codesV_apply _ (block_bd hb _ ht _ _ (by omega) (by omega) (by omega)),
    block_grp hb _ ht r (C.val % 512 / 128) (by omega) ⟨C.val / 128, by omega⟩ (by simp only; omega)]
  refine congrArg (cod _) (Fin.ext ?_)
  simp only; omega

theorem HS_apply (r : Fin 1024) (l : Fin 80) :
    HS m c (ix2 r l) = scl (grp (Za m c r) (Wa m c) (Sa m c) l) := by
  have hl := l.isLt
  have hp : (pt (l.val / 4)).val = l.val / 4 := Nat.mod_eq_of_lt (by omega)
  have ht : (pt (l.val / 4)).val < 20 := by omega
  have e : HS m c (ix2 r l) = scalesV (blockH (iblk m c 2 (pt (l.val / 4))) (iblk m c 3 (pt (l.val / 4)))
      (iblk m c 4 (pt (l.val / 4))) (iblk m c 5 (pt (l.val / 4))) (XC m c) (XS m c) (r.val / 256 * 256) (l.val % 4 * 128))
      (ix2 ⟨r.val % 256, Nat.mod_lt _ (by decide)⟩ l) := rfl
  rw [e, scalesV_apply _ (block_bd hb _ ht _ _ (by omega) (by omega) (by omega)),
    block_grp hb _ ht r (l.val % 4) (by omega) l (by omega)]

end Cert.KernelIdeal.Hand

end
-- ==== Proof.InRange.lean ====
/- The precondition read back: the bounds on the gain, the weights and their scales. -/
module

public import proofs.«01_k».proof.Defs
public import proofs.«01_k».proof.Proof.KernelValue
public import Idealize.ShloMosaic.Lib.ReduceAll

@[expose] public section

noncomputable section

namespace Cert.Pre_in_range.Hand

open Idealize.ShloMosaic Idealize.ShloMosaic.TcCoe Idealize.SL.Sem
open Cert.Pre_in_range Cert.Value

theorem facts : Cert.Pre_in_range.Facts where
  bcast_S_S2560 := by decide
  reducesTo_S2560_S_d0 := by decide
  h_S_ := by decide
  bcast_S_S2560x20480 := by decide
  reducesTo_S2560x20480_S_d0_1 := by decide
  bcast_S_S20480 := by decide
  reducesTo_S20480_S_d0 := by decide

instance : Subsingleton S_.Idx := ⟨fun a b => funext fun x => x.elim0⟩

/-- A comparison that reads one holds. -/
theorem le_of_cmp (a t : EReal) (h : Ideal.cmp .ole a t = 1#1) : a ≤ t := by
  by_contra hc
  have : Ideal.cmp .ole a t = 0#1 := by
    show BitVec.ofBool (decide (a ≤ t)) = 0#1
    rw [decide_eq_false hc]; rfl
  rw [this] at h
  exact absurd h (by decide)

/-- An array whose every size compares at most a constant, read at an element. -/
theorem bound_at {s : Shape} (hB : S_.BroadcastsInDim s (![] : Fin 0 → Fin s.rank)) (x : FVec Ideal s .f32) (b : BitVec 32) (i : s.Idx)
    (h : cmpf .ole (Host.absf x) (broadcastInDim s ![] hB (constant S_ .f32 b : FVec Ideal S_ .f32)) i = 1#1) :
    max (x i) (-(x i)) ≤ Ideal.ofBits .f32 b :=
  le_of_cmp _ _ h

/-- The gain and the scales are at most two to the 16th in size, and the weights at most 448. -/
theorem bounds [Facts] (m : (ℓ : Loc Cert.KernelIdeal.nD Cert.KernelIdeal.τ Cert.KernelIdeal.sig) → Buf (Elt Ideal) ℓ)
    (h : Cert.Pre_KernelIdeal_in_range m) (c : Dev Cert.KernelIdeal.nD) : Cert.KernelIdeal.Hand.Bounds m c := by
  have h0 := congrFun (h c) (fun a => a.elim0)
  obtain ⟨h12, h3⟩ := IntOp.andi_eq_one.1 h0
  obtain ⟨h1, h2⟩ := IntOp.andi_eq_one.1 h12
  refine ⟨fun i => ?_, fun k n => ?_, fun n => ?_⟩
  · have e := Host.reduce_andi_all _ _ _ _ _ h1 (ix1 i)
    exact IsBd.of_abs ((bound_at _ _ _ _ e).trans (le_of_eq c_65536))
  · have e := Host.reduce_andi_all _ _ _ _ _ h2 (ix2 k n)
    exact IsBd.of_abs ((bound_at _ _ _ _ e).trans (le_of_eq c_448))
  · have e := Host.reduce_andi_all _ _ _ _ _ h3 (ix1 n)
    exact IsBd.of_abs ((bound_at _ _ _ _ e).trans (le_of_eq c_65536))

end Cert.Pre_in_range.Hand

end
-- ==== Proof.RefPay.lean ====
/- The reference's vector expressions read at an element, on the extended reals. -/
module

public import proofs.«01_k».proof.Proof.Spec
public import proofs.«01_k».proof.Proof.Gen.ReferenceIdeal.Frame
public import Idealize.ShloMosaic.Lib.Pointwise

@[expose] public section

set_option maxRecDepth 65536

noncomputable section

namespace Cert.ReferenceIdeal.Hand

open Idealize.ShloMosaic Idealize.SL.Sem
open Cert.ReferenceIdeal Cert.ReferenceIdeal.Gen Cert.Value

theorem pay3_apply (x : Vec Ideal S1024x2560 .bf16) (g : Vec Ideal S1x2560 .f32) (r : Fin 1024) (k : Fin 2560) :
    k0_pay3 x g (ix2 r k) = nrm (fun i => x (ix2 r i)) (fun i => g (ix2 0 i)) k := by
  pointwise [k0_pay3, nrm]
  rw [c_2560, Ideal.div_coe (by norm_num)]

theorem exp2_def (x : Ideal .f32) : FloatOps.exp2 x = Ideal.exp2 x := rfl

theorem exp2V_apply {s : Shape} (v : FVec Ideal s .f32) (i : s.Idx) : exp2 v i = Ideal.exp2 (v i) := rfl

theorem if_cmp (a t x y : EReal) : (if Ideal.cmp .olt a t = 1#1 then x else y) = if a < t then x else y := by
  have h : Ideal.cmp .olt a t = 1#1 ↔ a < t := by
    show BitVec.ofBool (decide (a < t)) = 1#1 ↔ a < t
    by_cases h : a < t <;> simp [h]
  by_cases h' : a < t
  · rw [if_pos h', if_pos (h.2 h')]
  · rw [if_neg h', if_neg fun c => h' (h.1 c)]

/-- The exponent of a row from its greatest size over 448, whatever number `t` below which it is zero. -/
theorem pick_apply {s : Shape} (A : FVec Ideal s .f32) (t z o l : EReal) (x : s.Idx) :
    select (cmpf .olt A (broadcast s (t : Ideal .f32))) (broadcast s (z : Ideal .f32))
      (addf (floor (divf (log A) (broadcast s (l : Ideal .f32)))) (broadcast s (o : Ideal .f32))) x
    = if A x < t then z else Ideal.liftRound Int.floor (Ideal.div (Ideal.log (A x)) l) + o :=
  if_cmp (A x) t _ _

theorem ln_2_eq : (Named.named (F := Ideal) (φ := .f32) κ "ln_2" 0x3F317218#32 : EReal) = ((Real.log 2 : ℝ) : EReal) :=
  IdealRules.named_const.ideal_named_scalar _ _ _ _ rfl

theorem one_eq : (Ideal.ofBits .f32 0x3F800000#32 : EReal) = 1 := by rw [c_one_f, EReal.coe_one]

theorem pick_eq (t a z o l : EReal) (hz : z = 0) (ho : o = 1) (hl : l = ((Real.log 2 : ℝ) : EReal)) :
    (if a < t then z else Ideal.liftRound Int.floor (Ideal.div (Ideal.log a) l) + o)
      = if a < t then 0 else Ideal.liftRound Int.floor (Ideal.div (Ideal.log a) ((Real.log 2 : ℝ) : EReal)) + 1 := by
  subst hz ho hl
  rfl

theorem expo_def (a : EReal) : expo a = if a < Ideal.ofBits .f32 0x00800000#32 then 0
    else Ideal.liftRound Int.floor (Ideal.div (Ideal.log a) ((Real.log 2 : ℝ) : EReal)) + 1 := by
  delta expo
  exact Eq.refl _

theorem pick_expo {s : Shape} (A : FVec Ideal s .f32) (x : s.Idx) :
    select (cmpf .olt A (broadcast s (Ideal.ofBits .f32 0x00800000#32 : Ideal .f32)))
      (broadcast s (Ideal.ofBits .f32 0x00000000#32 : Ideal .f32))
      (addf (floor (divf (log A) (broadcast s (Named.named (F := Ideal) (φ := .f32) κ "ln_2" 0x3F317218#32))))
        (broadcast s (Ideal.ofBits .f32 0x3F800000#32 : Ideal .f32))) x = expo (A x) :=
  (pick_apply A _ _ _ _ x).trans ((pick_eq _ _ _ _ _ Ideal.ofBits_zero_f32 one_eq ln_2_eq).trans (expo_def _).symm)

/-- The greatest size along the last axis of a matrix. -/
theorem maxRow {a b : ℕ} (h : (⟨2, ![a, b]⟩ : Shape).Reduces [1] ⟨1, ![a]⟩) (hφ : FKind.Formats .f32)
    (hacc : (0xFF800000#32 : BitVec 32) = FKind.maximumf.neutral .f32 hφ) (z : FVec Ideal ⟨2, ![a, b]⟩ .f32) (r : Fin a) :
    multiReduction .maximumf [1] ⟨1, ![a]⟩ (absf z) 0xFF800000#32 h hφ hacc (ix1 r) = top (fun k => z (ix2 r k)) :=
  (multiReduction_maximumf_eq_fold (absf z) _ h hφ hacc (ix1 r)).trans (h.fold_fiber_r2_a1 (ix1 r) max _ (absf z))

/-- … and of an array of three axes. -/
theorem maxGroup {a b d : ℕ} (h : (⟨3, ![a, b, d]⟩ : Shape).Reduces [2] ⟨2, ![a, b]⟩) (hφ : FKind.Formats .f32)
    (hacc : (0xFF800000#32 : BitVec 32) = FKind.maximumf.neutral .f32 hφ) (z : FVec Ideal ⟨3, ![a, b, d]⟩ .f32) (r : Fin a) (l : Fin b) :
    multiReduction .maximumf [2] ⟨2, ![a, b]⟩ (absf z) 0xFF800000#32 h hφ hacc (ix2 r l) = top (fun q => z (ix3 r l q)) :=
  (multiReduction_maximumf_eq_fold (absf z) _ h hφ hacc (ix2 r l)).trans (h.fold_fiber_r3_a2 (ix2 r l) max _ (absf z))

theorem col_apply (v : FVec Ideal S1024 .f32) (r : Fin 1024) : shapeCast S1024x1 v shapeCasts_S1024_S1024x1 (ix2 r 0) = v (ix1 r) := by
  pointwise

theorem col3_apply (v : FVec Ideal S1024x80 .f32) (r : Fin 1024) (l : Fin 80) :
    shapeCast S1024x80x1 v shapeCasts_S1024x80_S1024x80x1 (ix3 r l 0) = v (ix2 r l) := by
  pointwise

theorem scaled_apply {s : Shape} (A : FVec Ideal s .f32) (c : BitVec 32) (i : s.Idx) :
    mulf A (broadcast s (Scalar.ofBits .f32 c)) i = A i * Ideal.ofBits .f32 c := rfl

/-- A row's greatest size over 448. -/
def peak (z : FVec Ideal S1024x2560 .f32) : FVec Ideal S1024x1 .f32 :=
  mulf (shapeCast S1024x1 (multiReduction .maximumf [1] S1024 (absf z) 0xFF800000#32 reduces_S1024x2560_S1024 (.inl rfl) rfl)
    shapeCasts_S1024_S1024x1) (broadcast S1024x1 (Scalar.ofBits .f32 0x3B124925#32))

theorem peak_apply (z : FVec Ideal S1024x2560 .f32) (r : Fin 1024) : peak z (ix2 r 0) = amx (fun k => z (ix2 r k)) := by
  delta peak amx
  rw [scaled_apply]
  refine congrArg (fun t : EReal => t * Ideal.ofBits .f32 0x3B124925#32) ?_
  exact (col_apply _ r).trans (maxRow _ _ _ z r)

theorem pay4_pick (x : Vec Ideal S1024x2560 .bf16) (g : Vec Ideal S1x2560 .f32) : k0_pay4 x g =
    select (cmpf .olt (peak (k0_pay3 x g)) (broadcast S1024x1 (Ideal.ofBits .f32 0x00800000#32 : Ideal .f32)))
      (broadcast S1024x1 (Ideal.ofBits .f32 0x00000000#32 : Ideal .f32))
      (addf (floor (divf (log (peak (k0_pay3 x g))) (broadcast S1024x1 (Named.named (F := Ideal) (φ := .f32) κ "ln_2" 0x3F317218#32))))
        (broadcast S1024x1 (Ideal.ofBits .f32 0x3F800000#32 : Ideal .f32))) := by
  delta k0_pay4 peak
  exact Eq.refl _

theorem pay4_apply (x : Vec Ideal S1024x2560 .bf16) (g : Vec Ideal S1x2560 .f32) (r : Fin 1024) :
    k0_pay4 x g (ix2 r 0) = expo (amx (fun k => k0_pay3 x g (ix2 r k))) :=
  (congrFun (pay4_pick x g) (ix2 r 0)).trans ((pick_expo (peak (k0_pay3 x g)) (ix2 r 0)).trans
    (congrArg expo (peak_apply (k0_pay3 x g) r)))

/-- A group's greatest size over 448. -/
def peakG (z : FVec Ideal S1024x80x128 .f32) : FVec Ideal S1024x80x1 .f32 :=
  mulf (shapeCast S1024x80x1 (multiReduction .maximumf [2] S1024x80 (absf z) 0xFF800000#32 reduces_S1024x80x128_S1024x80 (.inl rfl) rfl)
    shapeCasts_S1024x80_S1024x80x1) (broadcast S1024x80x1 (Scalar.ofBits .f32 0x3B124925#32))

theorem peakG_apply (z : FVec Ideal S1024x80x128 .f32) (r : Fin 1024) (l : Fin 80) :
    peakG z (ix3 r l 0) = amx (fun q => z (ix3 r l q)) := by
  delta peakG amx
  rw [scaled_apply]
  refine congrArg (fun t : EReal => t * Ideal.ofBits .f32 0x3B124925#32) ?_
  exact (col3_apply _ r l).trans (maxGroup _ _ _ z r l)

theorem pay10_pick (v34 : FVec Ideal S1024x1 .f32) (v41 v42 : FVec Ideal S1024x2560 .f32) (w : Vec Ideal S2560x20480 .fp8e4m3)
    (s : Vec Ideal S1x20480 .f32) : k0_pay10 v34 v41 v42 w s =
    select (cmpf .olt (peakG (k0_pay9 v34 v41 v42 w s)) (broadcast S1024x80x1 (Ideal.ofBits .f32 0x00800000#32 : Ideal .f32)))
      (broadcast S1024x80x1 (Ideal.ofBits .f32 0x00000000#32 : Ideal .f32))
      (addf (floor (divf (log (peakG (k0_pay9 v34 v41 v42 w s))) (broadcast S1024x80x1 (Named.named (F := Ideal) (φ := .f32) κ "ln_2" 0x3F317218#32))))
        (broadcast S1024x80x1 (Ideal.ofBits .f32 0x3F800000#32 : Ideal .f32))) := by
  delta k0_pay10 peakG
  exact Eq.refl _

theorem pay10_apply (v34 : FVec Ideal S1024x1 .f32) (v41 v42 : FVec Ideal S1024x2560 .f32) (w : Vec Ideal S2560x20480 .fp8e4m3)
    (s : Vec Ideal S1x20480 .f32) (r : Fin 1024) (l : Fin 80) :
    k0_pay10 v34 v41 v42 w s (ix3 r l 0) = expo (amx (fun q : Fin 128 => k0_pay9 v34 v41 v42 w s (ix3 r l q))) :=
  (congrFun (pay10_pick v34 v41 v42 w s) (ix3 r l 0)).trans ((pick_expo (peakG (k0_pay9 v34 v41 v42 w s)) (ix3 r l 0)).trans
    (congrArg expo (peakG_apply (k0_pay9 v34 v41 v42 w s) r l)))

theorem pay9_apply (v34 : FVec Ideal S1024x1 .f32) (v41 v42 : FVec Ideal S1024x2560 .f32) (w : Vec Ideal S2560x20480 .fp8e4m3)
    (s : Vec Ideal S1x20480 .f32) (r : Fin 1024) (l : Fin 80) (q : Fin 128) :
    k0_pay9 v34 v41 v42 w s (ix3 r l q)
      = hid (prj (fun k => k0_pay8 v41 v42 (ix2 r k)) (fun k => w (ix2 k ⟨l.val * 128 + q.val, by omega⟩)) (v34 (ix2 r 0)) (s (ix2 0 ⟨l.val * 128 + q.val, by omega⟩)))
          (prj (fun k => k0_pay8 v41 v42 (ix2 r k)) (fun k => w (ix2 k ⟨10240 + (l.val * 128 + q.val), by omega⟩)) (v34 (ix2 r 0)) (s (ix2 0 ⟨10240 + (l.val * 128 + q.val), by omega⟩))) := by
  pointwise [k0_pay9, hid, prj]

theorem pay2_apply (v : FVec Ideal S1024x80x1 .f32) (r : Fin 1024) (l : Fin 80) : k0_pay2 v (ix2 r l) = v (ix3 r l 0) := by
  pointwise [k0_pay2]

theorem pay1_apply (h : FVec Ideal S1024x80x128 .f32) (e : FVec Ideal S1024x80x1 .f32) (r : Fin 1024) (C : Fin 10240) :
    k0_pay1 h e (Ideal.ofBits .f32 0x00000000#32) (ix2 r C) = clp (h (ix3 r ⟨C.val / 128, by omega⟩ ⟨C.val % 128, Nat.mod_lt _ (by decide)⟩)
      * Ideal.exp2 (0 - e (ix3 r ⟨C.val / 128, by omega⟩ 0))) := by
  pointwise [k0_pay1, clp]
  simp only [exp2_def]

theorem row_eq (x : Vec Ideal S1024x2560 .bf16) (g : Vec Ideal S1x2560 .f32) (r : Fin 1024) :
    (fun k => k0_pay3 x g (ix2 r k)) = nrm (fun i => x (ix2 r i)) (fun i => g (ix2 0 i)) := funext (pay3_apply x g r)

theorem pay5_exp (x : Vec Ideal S1024x2560 .bf16) (g : Vec Ideal S1x2560 .f32) : k0_pay5 x g = exp2 (k0_pay4 x g) := by
  delta k0_pay5
  exact Eq.refl _

theorem pay5_apply (x : Vec Ideal S1024x2560 .bf16) (g : Vec Ideal S1x2560 .f32) (r : Fin 1024) :
    k0_pay5 x g (ix2 r 0) = scl (nrm (fun i => x (ix2 r i)) (fun i => g (ix2 0 i))) := by
  rw [pay5_exp, exp2V_apply, pay4_apply, row_eq]
  delta scl
  exact Eq.refl _

/-- The scaled and clipped row, whatever its scale's exponent. -/
theorem clip_apply (z : FVec Ideal S1024x2560 .f32) (e : FVec Ideal S1024x1 .f32) (r : Fin 1024) (k : Fin 2560) :
    minimumf (broadcast S1024x2560 (Scalar.ofBits .f32 0x43E00000#32)) (maximumf (broadcast S1024x2560 (Scalar.ofBits .f32 0xC3E00000#32))
      (mulf z (broadcastTo S1024x2560 (exp2 (subf (broadcast S1024x1 (Scalar.ofBits .f32 0x00000000#32)) e)) broadcasts_S1024x1_S1024x2560))) (ix2 r k)
      = clp (z (ix2 r k) * Ideal.exp2 (0 - e (ix2 r 0))) := by
  pointwise [clp]
  simp only [exp2_def]

theorem pay8_eq (x : Vec Ideal S1024x2560 .bf16) (g : Vec Ideal S1x2560 .f32) : k0_pay8 (k0_pay6 x g) k0_pay7 =
    truncf .fp8e4m3 (minimumf (broadcast S1024x2560 (Scalar.ofBits .f32 0x43E00000#32)) (maximumf (broadcast S1024x2560 (Scalar.ofBits .f32 0xC3E00000#32))
      (mulf (k0_pay3 x g) (broadcastTo S1024x2560 (exp2 (subf (broadcast S1024x1 (Scalar.ofBits .f32 0x00000000#32)) (k0_pay4 x g))) broadcasts_S1024x1_S1024x2560))))
      bitsLt_fp8e4m3_f32 := by
  delta k0_pay8 k0_pay6 k0_pay7
  exact Eq.refl _

theorem trunc_apply {s : Shape} (v : FVec Ideal s .f32) (i : s.Idx) : truncf .fp8e4m3 v bitsLt_fp8e4m3_f32 i = v i := rfl

theorem pay8_apply (x : Vec Ideal S1024x2560 .bf16) (g : Vec Ideal S1x2560 .f32) (r : Fin 1024) (k : Fin 2560) :
    k0_pay8 (k0_pay6 x g) k0_pay7 (ix2 r k) = cod (nrm (fun i => x (ix2 r i)) (fun i => g (ix2 0 i))) k := by
  rw [pay8_eq, trunc_apply, clip_apply, pay4_apply, row_eq, pay3_apply]
  delta cod
  exact Eq.refl _

end Cert.ReferenceIdeal.Hand

end
-- ==== Proof.RefOut.lean ====
/- What the reference's body leaves in its four output buffers, element by element on the extended reals. -/
module

public import proofs.«01_k».proof.Proof.RefPay
public import Idealize.ShloMosaic.Lib.Pipeline.ValueKit

@[expose] public section

set_option maxRecDepth 65536

noncomputable section

namespace Cert.ReferenceIdeal.Hand

open Idealize.ShloMosaic Idealize.ShloMosaic.TcCoe Idealize.SL.Sem
open Cert.ReferenceIdeal Cert.ReferenceIdeal.Gen Cert.Value

variable (x0 : Vec Ideal S1024x2560 .bf16) (x1 : Vec Ideal S1x2560 .f32) (x2 : Vec Ideal S2560x20480 .fp8e4m3) (x3 : Vec Ideal S1x20480 .f32)

theorem hz : (![0, 0] : Fin 2 → ℕ) = fun _ => 0 := funext fun a => by fin_cases a <;> rfl

theorem ld_0 : View.ld x0 r0_0 = x0 := View.ld_unit_zero hz _ x0
theorem ld_1 : View.ld x1 r0_1 = x1 := View.ld_unit_zero hz _ x1
theorem ld_2 : View.ld x2 r0_2 = x2 := View.ld_unit_zero hz _ x2
theorem ld_3 : View.ld x3 r0_3 = x3 := View.ld_unit_zero hz _ x3

/-- The normalised row `r` of what the buffers hold. -/
def rowZ (r : Fin 1024) : Fin 2560 → EReal := nrm (fun i => x0 (ix2 r i)) (fun i => x1 (ix2 0 i))

theorem one_col (r : Fin 1024) (l : Fin 1) : (ix2 r l : S1024x1.Idx) = ix2 r 0 := by
  have : l = 0 := Fin.ext (by omega)
  rw [this]

/-- The activations the reference forms, in its grouped arrangement. -/
abbrev hidV : FVec Ideal S1024x80x128 .f32 := k0_pay9 (k0_pay5 x0 x1) (k0_pay6 x0 x1) k0_pay7 x2 x3

theorem hidV_apply (r : Fin 1024) (l : Fin 80) (q : Fin 128) :
    hidV x0 x1 x2 x3 (ix3 r l q) = grp (rowZ x0 x1 r) (fun k n => x2 (ix2 k n)) (fun n => x3 (ix2 0 n)) l q := by
  have hc : (fun k => k0_pay8 (k0_pay6 x0 x1) k0_pay7 (ix2 r k)) = cod (rowZ x0 x1 r) := funext fun k => pay8_apply x0 x1 r k
  have hs : k0_pay5 x0 x1 (ix2 r 0) = scl (rowZ x0 x1 r) := pay5_apply x0 x1 r
  refine (pay9_apply (k0_pay5 x0 x1) (k0_pay6 x0 x1) k0_pay7 x2 x3 r l q).trans ?_
  rw [hc, hs]
  delta grp act
  exact Eq.refl _

theorem hidV_row (r : Fin 1024) (l : Fin 80) :
    (fun q : Fin 128 => hidV x0 x1 x2 x3 (ix3 r l q)) = grp (rowZ x0 x1 r) (fun k n => x2 (ix2 k n)) (fun n => x3 (ix2 0 n)) l :=
  funext fun q => hidV_apply x0 x1 x2 x3 r l q

theorem out7_apply (r : Fin 1024) (l : Fin 1) : out0_7 x0 x1 x2 x3 (ix2 r l) = scl (rowZ x0 x1 r) := by
  unfold out0_7 k0_pay12
  rw [View.canon_unit_zero hz, ld_0, ld_1, one_col]
  exact pay5_apply x0 x1 r

theorem out6_apply (r : Fin 1024) (k : Fin 2560) : out0_6 x0 x1 x2 x3 (ix2 r k) = cod (rowZ x0 x1 r) k := by
  unfold out0_6 k0_pay13 k0_pay14
  rw [View.canon_unit_zero hz, ld_0, ld_1]
  exact pay8_apply x0 x1 r k

theorem pay11_exp (v34 : FVec Ideal S1024x1 .f32) (v41 v42 : FVec Ideal S1024x2560 .f32) (w : Vec Ideal S2560x20480 .fp8e4m3)
    (s : Vec Ideal S1x20480 .f32) : k0_pay11 v34 v41 v42 w s = exp2 (k0_pay10 v34 v41 v42 w s) := by
  delta k0_pay11
  exact Eq.refl _

theorem out5_apply (r : Fin 1024) (l : Fin 80) :
    out0_5 x0 x1 x2 x3 (ix2 r l) = scl (grp (rowZ x0 x1 r) (fun k n => x2 (ix2 k n)) (fun n => x3 (ix2 0 n)) l) := by
  unfold out0_5 k0_pay12 k0_pay13 k0_pay14
  rw [View.canon_unit_zero hz, ld_0, ld_1, ld_2, ld_3, pay2_apply, pay11_exp, exp2V_apply, pay10_apply, hidV_row]
  delta scl
  exact Eq.refl _

theorem out4_apply (r : Fin 1024) (C : Fin 10240) :
    out0_4 x0 x1 x2 x3 (ix2 r C) = cod (grp (rowZ x0 x1 r) (fun k n => x2 (ix2 k n)) (fun n => x3 (ix2 0 n)) ⟨C.val / 128, by omega⟩)
      ⟨C.val % 128, Nat.mod_lt _ (by decide)⟩ := by
  unfold out0_4 k0_pay12 k0_pay13 k0_pay14
  rw [View.canon_unit_zero hz, ld_0, ld_1, ld_2, ld_3]
  refine (pay1_apply _ _ r C).trans ?_
  have e := hidV_apply x0 x1 x2 x3 r ⟨C.val / 128, by omega⟩ ⟨C.val % 128, Nat.mod_lt _ (by decide)⟩
  unfold hidV at e
  rw [pay10_apply, hidV_row, e]
  delta cod
  exact Eq.refl _

end Cert.ReferenceIdeal.Hand

end
-- ==== Proof.RefValue.lean ====
/- The reference's four result arrays as functions of its arguments, on the extended reals, and its run. -/
module

public import proofs.«01_k».proof.Proof.RefOut
public import Idealize.ShloMosaic.Lib.StableHlo.Run

@[expose] public section

set_option maxRecDepth 65536

noncomputable section

namespace Cert.ReferenceIdeal.Hand

open Idealize.ShloMosaic Idealize.ShloMosaic.TcCoe Idealize.ShloMosaic.Tactic Idealize.SL.Sem
open Idealize.ShloMosaic.StableHlo
open Cert.ReferenceIdeal Cert.ReferenceIdeal.Gen Cert.Value

variable (m : (ℓ : Loc nD τ sig) → Buf (Elt Ideal) ℓ) (ρ : Dev nD → PrngReg)

/-! ## The arrays the windows read -/

/-- The weights: narrowing is the identity here. -/
theorem V_0 (c : Dev nD) : V m c main_v0 = m ((c : Thread nD τ).loc main_arg2) := by
  unfold_abbrev_sides
  after_results
  rfl

/-- The input's rows. -/
theorem V_1 (c : Dev nD) : V m c main_v1 = shapeCast S1024x2560 (m ((c : Thread nD τ).loc main_arg0)) shapeCasts_S2x512x2560_S1024x2560 := by
  unfold_abbrev_sides
  after_results
  rfl

theorem V_2 (c : Dev nD) (k : Fin 2560) : V m c main_v2 (ix2 0 k) = m ((c : Thread nD τ).loc main_arg1) (ix1 k) := by
  have h : V m c main_v2 = shapeCast S1x2560 (m ((c : Thread nD τ).loc main_arg1)) shapeCasts_S2560_S1x2560 := by
    unfold_abbrev_sides
    after_results
    rfl
  rw [h]
  pointwise

theorem scales_row (v : S20480.Idx → EReal) (k : Fin 20480) :
    shapeCast S1x20480 v shapeCasts_S20480_S1x20480 (ix2 0 k) = v (ix1 k) := by
  pointwise

theorem V_3 (c : Dev nD) (k : Fin 20480) : V m c main_v3 (ix2 0 k) = m ((c : Thread nD τ).loc main_arg3) (ix1 k) := by
  have h : V m c main_v3 = shapeCast S1x20480 (m ((c : Thread nD τ).loc main_arg3)) shapeCasts_S20480_S1x20480 := by
    unfold_abbrev_sides
    after_results
    rfl
  rw [h]
  exact scales_row _ k

/-! ## Their blocks: the whole arrays, at the one point of the grid -/

/-- The one point. -/
abbrev P0 : Fin cfg0.N := ⟨0, by decide⟩

theorem e0 : ∀ t : Fin cfg0.N, win0_0.index t = ![0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)

theorem blk_0 (c : Dev nD) (r : Fin 1024) (i : Fin 2560) : iblk m c 0 P0 (ix2 r i) = V m c main_v1 (ix2 r i) := by
  blk_simp [iblk]
  blk_ext [e0]

theorem blk_1 (c : Dev nD) (i : Fin 2560) : iblk m c 1 P0 (ix2 0 i) = V m c main_v2 (ix2 0 i) := by
  blk_simp [iblk]
  blk_ext [e1]

theorem blk_2 (c : Dev nD) (k : Fin 2560) (n : Fin 20480) : iblk m c 2 P0 (ix2 k n) = V m c main_v0 (ix2 k n) := by
  blk_simp [iblk]
  blk_ext [e2]

theorem blk_3 (c : Dev nD) (n : Fin 20480) : iblk m c 3 P0 (ix2 0 n) = V m c main_v3 (ix2 0 n) := by
  blk_simp [iblk]
  blk_ext [e3]

/-! ## The arguments as plain functions -/

def Xa (c : Dev nD) (r : Fin 1024) (i : Fin 2560) : EReal :=
  shapeCast S1024x2560 (m ((c : Thread nD τ).loc main_arg0)) shapeCasts_S2x512x2560_S1024x2560 (ix2 r i)
def Ga (c : Dev nD) (i : Fin 2560) : EReal := m ((c : Thread nD τ).loc main_arg1) (ix1 i)
def Wa (c : Dev nD) (k : Fin 2560) (n : Fin 20480) : EReal := m ((c : Thread nD τ).loc main_arg2) (ix2 k n)
def Sa (c : Dev nD) (n : Fin 20480) : EReal := m ((c : Thread nD τ).loc main_arg3) (ix1 n)

/-- The normalised row `r`. -/
def Za (c : Dev nD) (r : Fin 1024) : Fin 2560 → EReal := nrm (Xa m c r) (Ga m c)

theorem rowZ_eq (c : Dev nD) (r : Fin 1024) : rowZ (iblk m c 0 P0) (iblk m c 1 P0) r = Za m c r := by
  unfold rowZ Za
  have h0 : (fun i => iblk m c 0 P0 (ix2 r i)) = Xa m c r := funext fun i => (blk_0 m c r i).trans (congrFun (V_1 m c) _)
  have h1 : (fun i => iblk m c 1 P0 (ix2 0 i)) = Ga m c := funext fun i => (blk_1 m c i).trans (V_2 m c i)
  exact congrArg₂ nrm h0 h1

theorem weights_eq (c : Dev nD) : (fun k n => iblk m c 2 P0 (ix2 k n)) = Wa m c :=
  funext fun k => funext fun n => (blk_2 m c k n).trans (congrFun (V_0 m c) _)

theorem scales_eq (c : Dev nD) : (fun n => iblk m c 3 P0 (ix2 0 n)) = Sa m c :=
  funext fun n => (blk_3 m c n).trans (V_3 m c n)

/-! ## The results -/

def HC (c : Dev nD) : Vec Ideal S1024x10240 .fp8e4m3 := out0_4 (iblk m c 0 P0) (iblk m c 1 P0) (iblk m c 2 P0) (iblk m c 3 P0)
def HS (c : Dev nD) : Vec Ideal S1024x80 .f32 := out0_5 (iblk m c 0 P0) (iblk m c 1 P0) (iblk m c 2 P0) (iblk m c 3 P0)
def XC (c : Dev nD) : Vec Ideal S1024x2560 .fp8e4m3 := out0_6 (iblk m c 0 P0) (iblk m c 1 P0) (iblk m c 2 P0) (iblk m c 3 P0)
def XO (c : Dev nD) : Vec Ideal S1024x1 .f32 := out0_7 (iblk m c 0 P0) (iblk m c 1 P0) (iblk m c 2 P0) (iblk m c 3 P0)

theorem XC_apply (c : Dev nD) (r : Fin 1024) (k : Fin 2560) : XC m c (ix2 r k) = cod (Za m c r) k := by
  rw [← rowZ_eq]; exact out6_apply _ _ _ _ r k

theorem XO_apply (c : Dev nD) (r : Fin 1024) (l : Fin 1) : XO m c (ix2 r l) = scl (Za m c r) := by
  rw [← rowZ_eq]; exact out7_apply _ _ _ _ r l

theorem HS_apply (c : Dev nD) (r : Fin 1024) (l : Fin 80) : HS m c (ix2 r l) = scl (grp (Za m c r) (Wa m c) (Sa m c) l) := by
  rw [← rowZ_eq, ← weights_eq, ← scales_eq]; exact out5_apply _ _ _ _ r l

theorem HC_apply (c : Dev nD) (r : Fin 1024) (C : Fin 10240) : HC m c (ix2 r C)
    = cod (grp (Za m c r) (Wa m c) (Sa m c) ⟨C.val / 128, by omega⟩) ⟨C.val % 128, Nat.mod_lt _ (by decide)⟩ := by
  rw [← rowZ_eq, ← weights_eq, ← scales_eq]; exact out4_apply _ _ _ _ r C

/-! ## The run -/

theorem arr_of_4 (c : Dev nD) (f : Vec Ideal S1024x10240 .fp8e4m3) (h : (dats m 0 c).after 4 P0 = f) : (dats m 0 c).arrAt 4 cfg0.N = f := by
  refine (dats m 0 c).arrAt_eq_of_after_last 4 P0 (by decide +kernel) _ fun j => ?_
  rw [h]
  exact Eq.refl _
theorem arr_4 (c : Dev nD) : (dats m 0 c).arrAt 4 cfg0.N = HC m c := arr_of_4 m c _ (after0_4 m c P0)
theorem arr_of_5 (c : Dev nD) (f : Vec Ideal S1024x80 .f32) (h : (dats m 0 c).after 5 P0 = f) : (dats m 0 c).arrAt 5 cfg0.N = f := by
  refine (dats m 0 c).arrAt_eq_of_after_last 5 P0 (by decide +kernel) _ fun j => ?_
  rw [h]
  exact Eq.refl _
theorem arr_5 (c : Dev nD) : (dats m 0 c).arrAt 5 cfg0.N = HS m c := arr_of_5 m c _ (after0_5 m c P0)
theorem arr_of_6 (c : Dev nD) (f : Vec Ideal S1024x2560 .fp8e4m3) (h : (dats m 0 c).after 6 P0 = f) : (dats m 0 c).arrAt 6 cfg0.N = f := by
  refine (dats m 0 c).arrAt_eq_of_after_last 6 P0 (by decide +kernel) _ fun j => ?_
  rw [h]
  exact Eq.refl _
theorem arr_6 (c : Dev nD) : (dats m 0 c).arrAt 6 cfg0.N = XC m c := arr_of_6 m c _ (after0_6 m c P0)
theorem arr_of_7 (c : Dev nD) (f : Vec Ideal S1024x1 .f32) (h : (dats m 0 c).after 7 P0 = f) : (dats m 0 c).arrAt 7 cfg0.N = f := by
  refine (dats m 0 c).arrAt_eq_of_after_last 7 P0 (by decide +kernel) _ fun j => ?_
  rw [h]
  exact Eq.refl _
theorem arr_7 (c : Dev nD) : (dats m 0 c).arrAt 7 cfg0.N = XO m c := arr_of_7 m c _ (after0_7 m c P0)

/-- The run, with its results named. -/
theorem run : θ_run defs (onTc (τ := τ) (main (F := Ideal))) ⟨m, fun _ => 0, ρ⟩ (fun r => ∀ c : Dev nD,
      r.2.mem ((c.tc : Thread nD τ).loc main_v4_0) = HC m c
      ∧ r.2.mem ((c.tc : Thread nD τ).loc main_v4_1) = HS m c
      ∧ r.2.mem ((c.tc : Thread nD τ).loc main_v4_2) = XC m c
      ∧ r.2.mem ((c.tc : Thread nD τ).loc main_v4_3) = XO m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).1 4).trans (arr_4 m c), ((h c).1 5).trans (arr_5 m c), ((h c).1 6).trans (arr_6 m c), ((h c).1 7).trans (arr_7 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.ReferenceIdeal.Hand

end
-- ==== Proof.Agree.lean ====
/- Kernel and reference leave the same four results, from the same arguments in range. -/
module

public import proofs.«01_k».proof.Proof.InRange
public import proofs.«01_k».proof.Proof.RefValue

@[expose] public section

noncomputable section

namespace Cert.Agree

open Idealize.ShloMosaic Idealize.ShloMosaic.TcCoe Idealize.SL.Sem
open Cert.Value

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD}

/-- The two memories hold the same arguments on device `c`. -/
structure Args (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

theorem row (h : Args m m' c) (r : Fin 1024) : Cert.ReferenceIdeal.Hand.Za m' c r = Cert.KernelIdeal.Hand.Za m c r := by
  have hx : Cert.ReferenceIdeal.Hand.Xa m' c r = Cert.KernelIdeal.Hand.Xa m c r :=
    funext fun i => congrFun (congrArg (fun v => shapeCast Cert.KernelIdeal.S1024x2560 v Cert.KernelIdeal.Gen.facts.shapeCasts_S2x512x2560_S1024x2560) h.a0) (ix2 r i)
  have hg : Cert.ReferenceIdeal.Hand.Ga m' c = Cert.KernelIdeal.Hand.Ga m c := funext fun i => congrFun h.a1 (ix1 i)
  exact congrArg₂ nrm hx hg

theorem weights (h : Args m m' c) : Cert.ReferenceIdeal.Hand.Wa m' c = Cert.KernelIdeal.Hand.Wa m c :=
  funext fun k => funext fun n => congrFun h.a2 (ix2 k n)

theorem scales (h : Args m m' c) : Cert.ReferenceIdeal.Hand.Sa m' c = Cert.KernelIdeal.Hand.Sa m c :=
  funext fun n => congrFun h.a3 (ix1 n)

/-- Two matrices equal at every row and column are equal. -/
theorem ext2 {a b : ℕ} {α : Type} {f g : (⟨2, ![a, b]⟩ : Shape).Idx → α} (h : ∀ (r : Fin a) (k : Fin b), f (ix2 r k) = g (ix2 r k)) : f = g := by
  funext j
  have e : j = ix2 (j 0) (j 1) := by
    funext x
    match x with
    | ⟨0, _⟩ => rfl
    | ⟨1, _⟩ => rfl
  rw [e]
  exact h _ _

variable (hb : Cert.KernelIdeal.Hand.Bounds m c) (h : Args m m' c)
include hb h

theorem hiddenCodes : Cert.ReferenceIdeal.Hand.HC m' c = Cert.KernelIdeal.Hand.HCw m c :=
  ext2 (a := 1024) (b := 10240) fun r C => by
    refine (Cert.ReferenceIdeal.Hand.HC_apply m' c r C).trans (Eq.trans ?_ (Cert.KernelIdeal.Hand.HCw_apply hb r C).symm)
    rw [row h, weights h, scales h]

theorem hiddenScales : Cert.ReferenceIdeal.Hand.HS m' c = Cert.KernelIdeal.Hand.HS m c :=
  ext2 (a := 1024) (b := 80) fun r l => by
    refine (Cert.ReferenceIdeal.Hand.HS_apply m' c r l).trans (Eq.trans ?_ (Cert.KernelIdeal.Hand.HS_apply hb r l).symm)
    rw [row h, weights h, scales h]

theorem rowCodes : Cert.ReferenceIdeal.Hand.XC m' c = Cert.KernelIdeal.Hand.XC m c :=
  ext2 (a := 1024) (b := 2560) fun r k => by
    refine (Cert.ReferenceIdeal.Hand.XC_apply m' c r k).trans (Eq.trans ?_ (Cert.KernelIdeal.Hand.XC_apply hb r k).symm)
    rw [row h]

theorem rowScales : Cert.ReferenceIdeal.Hand.XO m' c = Cert.KernelIdeal.Hand.XO m c :=
  ext2 (a := 1024) (b := 1) fun r l => by
    refine (Cert.ReferenceIdeal.Hand.XO_apply m' c r l).trans (Eq.trans ?_ (Cert.KernelIdeal.Hand.XO_apply hb r l).symm)
    rw [row h]

end Cert.Agree

end
-- ==== Proof.KernelBody.lean ====
/- The kernel's body at a grid point, at any values: it runs to its end and leaves its inputs as they were. Nothing is
   said of what it leaves in its outputs. Its two cases are the first point, which quantises the rows, and every other. -/
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 20 = 0 :=
  (fun t => by
    have ht : t.val < 20 := Nat.lt_of_lt_of_eq t.isLt N_0
    have e0 : (grid0.coords t 0).val = t.val / 1 % 20 := Pipeline.Grid.coords_val t 0 (by decide) rfl
    simp only [cond0_0, k0_cond1, e0]
    word_cmp
   : ∀ t : Fin grid0.N, cond0_0 (grid0.coords t) ↔ t.val % 20 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging buffers -/

/-- Each window's current staging memref at point `t`, spelled as the pipeline passes it (`bodyAt0`), and its wholeness. -/
abbrev ms0_0 (t : Fin cfg0.N) : Memref sig .tc .vmem S1024x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2560 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2560x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2560x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x80 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x2560 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1024x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1064000 in
/-- The body at the first point, where the rows are quantised: on whole staging buffers, the inputs at their contents and the outputs at anything,
    it runs on with the inputs as they were, the outputs and the scratch at some contents. -/
theorem bodyA (c : Dev nD) (i : grid0.Coords) (arg1 : Memref sig .tc .vmem S1024x2560 .bf16) (harg1 : arg1.IsWhole) (arg2 : Memref sig .tc .vmem S1x2560 .f32) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole) (arg11 : Memref sig .tc .vmem S1024x128 .f32) (harg11 : arg11.IsWhole) (hc0 : cond0_0 i)
    (x0 : Vec F S1024x2560 .bf16) (x1 : Vec F S1x2560 .f32) (x2 : Vec F S2560x512 .fp8e4m3) (x3 : Vec F S2560x512 .fp8e4m3) (x4 : Vec F S1x512 .f32) (x5 : Vec F S1x512 .f32) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_rmsnorm_geglu_fp8 i arg1 harg1 arg2 harg2 arg3 harg3 arg4 harg4 arg5 harg5 arg6 harg6 arg7 harg7 arg8 harg8 arg9 harg9 arg10 harg10 arg11 harg11) K := by
    intro E K
    simp only [cc0_rmsnorm_geglu_fp8_eq_skeleton]; unfold cc0_rmsnorm_geglu_fp8_skel
    simp only [k0_part41_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact HS0
    ipureintro; rfl

set_option maxHeartbeats 1000000 in
/-- The body at every point but the first: on whole staging buffers, the inputs at their contents and the outputs at anything,
    it runs on with the inputs as they were, the outputs and the scratch at some contents. -/
theorem bodyB (c : Dev nD) (i : grid0.Coords) (arg1 : Memref sig .tc .vmem S1024x2560 .bf16) (harg1 : arg1.IsWhole) (arg2 : Memref sig .tc .vmem S1x2560 .f32) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole) (arg11 : Memref sig .tc .vmem S1024x128 .f32) (harg11 : arg11.IsWhole) (hc0 : ¬cond0_0 i)
    (x0 : Vec F S1024x2560 .bf16) (x1 : Vec F S1x2560 .f32) (x2 : Vec F S2560x512 .fp8e4m3) (x3 : Vec F S2560x512 .fp8e4m3) (x4 : Vec F S1x512 .f32) (x5 : Vec F S1x512 .f32) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_rmsnorm_geglu_fp8 i arg1 harg1 arg2 harg2 arg3 harg3 arg4 harg4 arg5 harg5 arg6 harg6 arg7 harg7 arg8 harg8 arg9 harg9 arg10 harg10 arg11 harg11) K := by
    intro E K
    simp only [cc0_rmsnorm_geglu_fp8_eq_skeleton]; unfold cc0_rmsnorm_geglu_fp8_skel
    simp only [k0_part41_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact HS0
    ipureintro; rfl

end Cert.Kernel.Hand

end
-- ==== Proof.KernelFrame.lean ====
/- The kernel's frame, at any values: its run ends, its arguments are unchanged and every semaphore is back at zero. -/
module

public import proofs.«01_k».proof.Proof.KernelBody
public import Idealize.ShloMosaic.Lib.Pipeline.DatRel
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The pipeline's proof data -/

/-- The output windows, of which nothing is stated. -/
def forgets0 : Fin 10 → Bool := fun w => w.val == 6 || w.val == 7 || w.val == 8 || w.val == 9

/-- The proof data: the arrays as the region finds them; after a point each input's buffer at its block, the outputs at
    whatever the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 1600000 in
/-- The body at any point: by the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 20 := lt_of_lt_of_eq t.isLt (show cfg0.N = 20 from N_0)
  by_cases h0 : t.val % 20 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((bodyA c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    iintro ⟨H0, H1, H2, H3, H4, H5, H6, H7, H8, H9, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((bodyB c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    iintro ⟨H0, H1, H2, H3, H4, H5, H6, H7, H8, H9, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- The run: the arrays' contents at the end, and every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The run without the semaphores. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- The frame: the arguments end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Agree
public import proofs.«01_k».proof.Proof.KernelFrame
public import Idealize.ShloMosaic.Adequacy
public import Idealize.ShloMosaic.Init

@[expose] public section

noncomputable section

namespace Cert.Proof

open Idealize.ShloMosaic Idealize.SL.Sem

/-- The values: the four arrays the kernel leaves, which the reference leaves too. -/
theorem values : @Cert.algebraic_KernelIdeal_ReferenceIdeal_pre_in_range Cert.KernelIdeal.Gen.facts Cert.ReferenceIdeal.Gen.facts
    Cert.Pre_in_range.Hand.facts := fun m g m' g' hp ha =>
  have hb := @Cert.Pre_in_range.Hand.bounds Cert.Pre_in_range.Hand.facts m hp
  have hA : ∀ c, Cert.Agree.Args m m' c := fun c => ⟨(ha c).1, (ha c).2.1, (ha c).2.2.1, (ha c).2.2.2⟩
  ⟨fun c => Cert.KernelIdeal.Hand.HCw m c, fun c => Cert.KernelIdeal.Hand.HS m c, fun c => Cert.KernelIdeal.Hand.XC m c,
    fun c => Cert.KernelIdeal.Hand.XO m c,
    (θ_run Cert.KernelIdeal.defs _ _).mono (fun _ h => h.1) (Cert.KernelIdeal.Hand.run m g),
    (θ_run Cert.ReferenceIdeal.defs _ _).mono (fun _ h c => ⟨(h c).1.trans (Cert.Agree.hiddenCodes (hb c) (hA c)),
      (h c).2.1.trans (Cert.Agree.hiddenScales (hb c) (hA c)), (h c).2.2.1.trans (Cert.Agree.rowCodes (hb c) (hA c)),
      (h c).2.2.2.1.trans (Cert.Agree.rowScales (hb c) (hA c)), (h c).2.2.2.2⟩) (Cert.ReferenceIdeal.Hand.run m' g')⟩

theorem claim : Cert.Claim := ⟨Cert.Kernel.Gen.facts, Cert.KernelIdeal.Gen.facts, Cert.ReferenceIdeal.Gen.facts, Cert.Reference.Gen.facts,
  Cert.Pre_in_range.Hand.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, fun m ρ _ => Cert.Reference.Gen.frame m ρ,
  IdealRules.named_const.statement Cert.KernelIdeal.κ "inv_d_model" .f32 0x39CCCCCD#32 ((1 / 2560 : ℝ) : EReal) rfl,
  IdealRules.named_const.statement Cert.ReferenceIdeal.κ "ln_2" .f32 0x3F317218#32 ((Real.log 2 : ℝ) : EReal) rfl,
  values⟩

end Cert.Proof

end
